-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v17_0)) (v1 : (c : Dev Cert.KernelIdeal.nD) → Buf (Elt Ideal) ((c.tc : Thread Cert.KernelIdeal.nD Cert.KernelIdeal.τ).loc Cert.KernelIdeal.main_v17_1)) (v2 : (c : Dev Cert.KernelIdeal.nD) → Buf (Elt Ideal) ((c.tc : Thread Cert.KernelIdeal.nD Cert.KernelIdeal.τ).loc Cert.KernelIdeal.main_v17_2)) (v3 : (c : Dev Cert.KernelIdeal.nD) → Buf (Elt Ideal) ((c.tc : Thread Cert.KernelIdeal.nD Cert.KernelIdeal.τ).loc Cert.KernelIdeal.main_v17_3)) (v4 : (c : Dev Cert.KernelIdeal.nD) → Buf (Elt Ideal) ((c.tc : Thread Cert.KernelIdeal.nD Cert.KernelIdeal.τ).loc Cert.KernelIdeal.main_v17_4)) (v5 : (c : Dev Cert.KernelIdeal.nD) → Buf (Elt Ideal) ((c.tc : Thread Cert.KernelIdeal.nD Cert.KernelIdeal.τ).loc Cert.KernelIdeal.main_v17_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17_0) = v0 c
          ∧ r.2.mem ((c.tc : Thread Cert.KernelIdeal.nD Cert.KernelIdeal.τ).loc Cert.KernelIdeal.main_v17_1) = v1 c
          ∧ r.2.mem ((c.tc : Thread Cert.KernelIdeal.nD Cert.KernelIdeal.τ).loc Cert.KernelIdeal.main_v17_2) = v2 c
          ∧ r.2.mem ((c.tc : Thread Cert.KernelIdeal.nD Cert.KernelIdeal.τ).loc Cert.KernelIdeal.main_v17_3) = v3 c
          ∧ r.2.mem ((c.tc : Thread Cert.KernelIdeal.nD Cert.KernelIdeal.τ).loc Cert.KernelIdeal.main_v17_4) = v4 c
          ∧ r.2.mem ((c.tc : Thread Cert.KernelIdeal.nD Cert.KernelIdeal.τ).loc Cert.KernelIdeal.main_v17_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_v0_5) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24064x1280 : Shape := ⟨2, ![24064, 1280]⟩
abbrev S1280x640 : Shape := ⟨2, ![1280, 640]⟩
abbrev S40x1280 : Shape := ⟨2, ![40, 1280]⟩
abbrev S1280 : Shape := ⟨1, ![1280]⟩
abbrev S1280x2560 : Shape := ⟨2, ![1280, 2560]⟩
abbrev S40x5120 : Shape := ⟨2, ![40, 5120]⟩
abbrev S5120 : Shape := ⟨1, ![5120]⟩
abbrev S5120x640 : Shape := ⟨2, ![5120, 640]⟩
abbrev S160x1280 : Shape := ⟨2, ![160, 1280]⟩
abbrev S_ : Shape := ⟨0, ![]⟩
abbrev S1x1280 : Shape := ⟨2, ![1, 1280]⟩
abbrev S1x5120 : Shape := ⟨2, ![1, 5120]⟩
abbrev S24064x40 : Shape := ⟨2, ![24064, 40]⟩
abbrev S24064x5120 : Shape := ⟨2, ![24064, 5120]⟩
abbrev S24064x160 : Shape := ⟨2, ![24064, 160]⟩
abbrev S256x1280 : Shape := ⟨2, ![256, 1280]⟩
abbrev S256x40 : Shape := ⟨2, ![256, 40]⟩
abbrev S256x5120 : Shape := ⟨2, ![256, 5120]⟩
abbrev S256x160 : Shape := ⟨2, ![256, 160]⟩
abbrev S1280x1280 : Shape := ⟨2, ![1280, 1280]⟩
abbrev S1280x5120 : Shape := ⟨2, ![1280, 5120]⟩
abbrev S5120x1280 : Shape := ⟨2, ![5120, 1280]⟩
abbrev S128x256 : Shape := ⟨2, ![128, 256]⟩
abbrev S256x256 : Shape := ⟨2, ![256, 256]⟩
abbrev S32x640 : Shape := ⟨2, ![32, 640]⟩
abbrev S1x640 : Shape := ⟨2, ![1, 640]⟩
abbrev S8x640 : Shape := ⟨2, ![8, 640]⟩
abbrev S32x2560 : Shape := ⟨2, ![32, 2560]⟩
abbrev S1x2560 : Shape := ⟨2, ![1, 2560]⟩
abbrev S8x2560 : Shape := ⟨2, ![8, 2560]⟩
abbrev S1280x256 : Shape := ⟨2, ![1280, 256]⟩
abbrev S1x256 : Shape := ⟨2, ![1, 256]⟩
abbrev S256 : Shape := ⟨1, ![256]⟩
abbrev S256x1 : Shape := ⟨2, ![256, 1]⟩
abbrev S256x128 : Shape := ⟨2, ![256, 128]⟩
abbrev S8x256 : Shape := ⟨2, ![8, 256]⟩
abbrev S16x256 : Shape := ⟨2, ![16, 256]⟩
abbrev S40x256 : Shape := ⟨2, ![40, 256]⟩
abbrev S160x256 : Shape := ⟨2, ![160, 256]⟩
abbrev S5120x256 : Shape := ⟨2, ![5120, 256]⟩

abbrev nBuf : Space → Nat
  | .hbm => 39
  | .vmem => 35
  | .smem => 0
  | _ => 0

abbrev bufTy : (tb : Table) → Fin (tcTables nBuf tb) → BufTy
  | .hbm, ⟨0, _⟩ => ⟨S24064x1280, .bf16⟩
  | .hbm, ⟨1, _⟩ => ⟨S24064x1280, .bf16⟩
  | .hbm, ⟨2, _⟩ => ⟨S1280x640, .i8⟩
  | .hbm, ⟨3, _⟩ => ⟨S40x1280, .i8⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1280x2560, .i8⟩
  | .hbm, ⟨8, _⟩ => ⟨S40x5120, .i8⟩
  | .hbm, ⟨9, _⟩ => ⟨S5120, .f32⟩
  | .hbm, ⟨10, _⟩ => ⟨S5120x640, .i8⟩
  | .hbm, ⟨11, _⟩ => ⟨S160x1280, .i8⟩
  | .hbm, ⟨12, _⟩ => ⟨S1280, .f32⟩
  | .hbm, ⟨13, _⟩ => ⟨S40x1280, .i32⟩
  | .hbm, ⟨14, _⟩ => ⟨S_, .i32⟩
  | .hbm, ⟨15, _⟩ => ⟨S40x1280, .i32⟩
  | .hbm, ⟨16, _⟩ => ⟨S40x1280, .i32⟩
  | .hbm, ⟨17, _⟩ => ⟨S40x1280, .f32⟩
  | .hbm, ⟨18, _⟩ => ⟨S1x1280, .f32⟩
  | .hbm, ⟨19, _⟩ => ⟨S1x1280, .f32⟩
  | .hbm, ⟨20, _⟩ => ⟨S1x1280, .f32⟩
  | .hbm, ⟨21, _⟩ => ⟨S40x5120, .i32⟩
  | .hbm, ⟨22, _⟩ => ⟨S_, .i32⟩
  | .hbm, ⟨23, _⟩ => ⟨S40x5120, .i32⟩
  | .hbm, ⟨24, _⟩ => ⟨S40x5120, .i32⟩
  | .hbm, ⟨25, _⟩ => ⟨S40x5120, .f32⟩
  | .hbm, ⟨26, _⟩ => ⟨S1x5120, .f32⟩
  | .hbm, ⟨27, _⟩ => ⟨S160x1280, .i32⟩
  | .hbm, ⟨28, _⟩ => ⟨S_, .i32⟩
  | .hbm, ⟨29, _⟩ => ⟨S160x1280, .i32⟩
  | .hbm, ⟨30, _⟩ => ⟨S160x1280, .i32⟩
  | .hbm, ⟨31, _⟩ => ⟨S160x1280, .f32⟩
  | .hbm, ⟨32, _⟩ => ⟨S1x1280, .f32⟩
  | .hbm, ⟨33, _⟩ => ⟨S24064x1280, .fp8e4m3⟩
  | .hbm, ⟨34, _⟩ => ⟨S24064x40, .i8⟩
  | .hbm, ⟨35, _⟩ => ⟨S24064x5120, .fp8e4m3⟩
  | .hbm, ⟨36, _⟩ => ⟨S24064x160, .i8⟩
  | .hbm, ⟨37, _⟩ => ⟨S24064x1280, .f32⟩
  | .hbm, ⟨38, _⟩ => ⟨S24064x1280, .bf16⟩
  | .local _ .vmem, ⟨0, _⟩ => ⟨S256x1280, .bf16⟩
  | .local _ .vmem, ⟨1, _⟩ => ⟨S256x1280, .bf16⟩
  | .local _ .vmem, ⟨2, _⟩ => ⟨S256x1280, .bf16⟩
  | .local _ .vmem, ⟨3, _⟩ => ⟨S256x1280, .bf16⟩
  | .local _ .vmem, ⟨4, _⟩ => ⟨S1280x640, .i8⟩
  | .local _ .vmem, ⟨5, _⟩ => ⟨S40x1280, .f32⟩
  | .local _ .vmem, ⟨6, _⟩ => ⟨S1x1280, .f32⟩
  | .local _ .vmem, ⟨7, _⟩ => ⟨S1x1280, .f32⟩
  | .local _ .vmem, ⟨8, _⟩ => ⟨S1x1280, .f32⟩
  | .local _ .vmem, ⟨9, _⟩ => ⟨S1280x2560, .i8⟩
  | .local _ .vmem, ⟨10, _⟩ => ⟨S40x5120, .f32⟩
  | .local _ .vmem, ⟨11, _⟩ => ⟨S1x5120, .f32⟩
  | .local _ .vmem, ⟨12, _⟩ => ⟨S5120x640, .i8⟩
  | .local _ .vmem, ⟨13, _⟩ => ⟨S160x1280, .f32⟩
  | .local _ .vmem, ⟨14, _⟩ => ⟨S1x1280, .f32⟩
  | .local _ .vmem, ⟨15, _⟩ => ⟨S256x1280, .fp8e4m3⟩
  | .local _ .vmem, ⟨16, _⟩ => ⟨S256x1280, .fp8e4m3⟩
  | .local _ .vmem, ⟨17, _⟩ => ⟨S256x40, .i8⟩
  | .local _ .vmem, ⟨18, _⟩ => ⟨S256x40, .i8⟩
  | .local _ .vmem, ⟨19, _⟩ => ⟨S256x5120, .fp8e4m3⟩
  | .local _ .vmem, ⟨20, _⟩ => ⟨S256x5120, .fp8e4m3⟩
  | .local _ .vmem, ⟨21, _⟩ => ⟨S256x160, .i8⟩
  | .local _ .vmem, ⟨22, _⟩ => ⟨S256x160, .i8⟩
  | .local _ .vmem, ⟨23, _⟩ => ⟨S256x1280, .f32⟩
  | .local _ .vmem, ⟨24, _⟩ => ⟨S256x1280, .f32⟩
  | .local _ .vmem, ⟨25, _⟩ => ⟨S256x1280, .bf16⟩
  | .local _ .vmem, ⟨26, _⟩ => ⟨S256x1280, .bf16⟩
  | .local _ .vmem, ⟨27, _⟩ => ⟨S1280x1280, .bf16⟩
  | .local _ .vmem, ⟨28, _⟩ => ⟨S1280x5120, .bf16⟩
  | .local _ .vmem, ⟨29, _⟩ => ⟨S5120x1280, .bf16⟩
  | .local _ .vmem, ⟨30, _⟩ => ⟨S256x1280, .bf16⟩
  | .local _ .vmem, ⟨31, _⟩ => ⟨S256x5120, .bf16⟩
  | .local _ .vmem, ⟨32, _⟩ => ⟨S256x1280, .f32⟩
  | .local _ .vmem, ⟨33, _⟩ => ⟨S128x256, .i32⟩
  | .local _ .vmem, ⟨34, _⟩ => ⟨S256x256, .i32⟩
  | _, _ => ⟨S24064x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_c : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17_0 : Ref sig .tc := ⟨.hbm, 33, rfl⟩
abbrev main_v17_1 : Ref sig .tc := ⟨.hbm, 34, rfl⟩
abbrev main_v17_2 : Ref sig .tc := ⟨.hbm, 35, rfl⟩
abbrev main_v17_3 : Ref sig .tc := ⟨.hbm, 36, rfl⟩
abbrev main_v17_4 : Ref sig .tc := ⟨.hbm, 37, rfl⟩
abbrev main_v17_5 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_stg16_0 : Ref sig .tc := ⟨.vmem, 21, rfl⟩
abbrev cc0_stg16_1 : Ref sig .tc := ⟨.vmem, 22, rfl⟩
abbrev cc0_stg17_0 : Ref sig .tc := ⟨.vmem, 23, rfl⟩
abbrev cc0_stg17_1 : Ref sig .tc := ⟨.vmem, 24, rfl⟩
abbrev cc0_stg18_0 : Ref sig .tc := ⟨.vmem, 25, rfl⟩
abbrev cc0_stg18_1 : Ref sig .tc := ⟨.vmem, 26, rfl⟩
abbrev cc0_scratch0 : Ref sig .tc := ⟨.vmem, 27, rfl⟩
abbrev cc0_scratch1 : Ref sig .tc := ⟨.vmem, 28, rfl⟩
abbrev cc0_scratch2 : Ref sig .tc := ⟨.vmem, 29, rfl⟩
abbrev cc0_scratch3 : Ref sig .tc := ⟨.vmem, 30, rfl⟩
abbrev cc0_scratch4 : Ref sig .tc := ⟨.vmem, 31, rfl⟩
abbrev cc0_scratch5 : Ref sig .tc := ⟨.vmem, 32, rfl⟩
abbrev cc0_scratch6 : Ref sig .tc := ⟨.vmem, 33, rfl⟩
abbrev cc0_scratch7 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20
abbrev cc0_sem16_0 : DmaSem sig := 21
abbrev cc0_sem16_1 : DmaSem sig := 22
abbrev cc0_sem17_0 : DmaSem sig := 23
abbrev cc0_sem17_1 : DmaSem sig := 24
abbrev cc0_sem18_0 : DmaSem sig := 25
abbrev cc0_sem18_1 : DmaSem sig := 26

abbrev nD : Nat := 1
abbrev τ : Topo := Topo.v7x

variable {F : FTy → Type} [FloatOps F]

abbrev grid0 : Pipeline.Grid := ⟨1, ![94], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3815 : BitVec 32 := 0#32
  let c40_i32 : BitVec 32 := 40#32
  let v11863 : BitVec 32 := Scalar.addi c0_i32_3815 c40_i32
  let c1_i32_3816 : BitVec 32 := 1#32
  ⟨c0_i32_3815, v11863, c1_i32_3816⟩
def k0_mult1 (k0_t1 : Fin k0_t1_loop.trips) : BitVec 32 :=
  let c0_i32_3826 : BitVec 32 := 0#32
  let c0_i32_3815 : BitVec 32 := 0#32
  let c1_i32_3816 : BitVec 32 := 1#32
  let arg28 : BitVec 32 := Scf.iv c0_i32_3815 c1_i32_3816 k0_t1
  let c1_i32_3825 : BitVec 32 := 1#32
  let v11866 : BitVec 32 := Scalar.muli arg28 c1_i32_3825
  let v11867 : BitVec 32 := Scalar.addi c0_i32_3826 v11866
  let c32_i32_3827 : BitVec 32 := 32#32
  let v11868 : BitVec 32 := Scalar.muli v11867 c32_i32_3827
  v11868
def k0_off1 (k0_t1 : Fin k0_t1_loop.trips) : Fin 2 → Nat :=
  let c0_i32_3826 : BitVec 32 := 0#32
  let c0_i32_3815 : BitVec 32 := 0#32
  let c1_i32_3816 : BitVec 32 := 1#32
  let arg28 : BitVec 32 := Scf.iv c0_i32_3815 c1_i32_3816 k0_t1
  let c1_i32_3825 : BitVec 32 := 1#32
  let v11866 : BitVec 32 := Scalar.muli arg28 c1_i32_3825
  let v11867 : BitVec 32 := Scalar.addi c0_i32_3826 v11866
  let v11870 : Index := Scalar.indexCast v11867
  let c0_3828 : Index := 0#32
  ![v11870.toNat, 0]
def k0_off2 (k0_t1 : Fin k0_t1_loop.trips) : Fin 2 → Nat :=
  let c0_i32_3826 : BitVec 32 := 0#32
  let c0_i32_3815 : BitVec 32 := 0#32
  let c1_i32_3816 : BitVec 32 := 1#32
  let arg28 : BitVec 32 := Scf.iv c0_i32_3815 c1_i32_3816 k0_t1
  let c1_i32_3825 : BitVec 32 := 1#32
  let v11866 : BitVec 32 := Scalar.muli arg28 c1_i32_3825
  let v11867 : BitVec 32 := Scalar.addi c0_i32_3826 v11866
  let c32_i32_3827 : BitVec 32 := 32#32
  let v11868 : BitVec 32 := Scalar.muli v11867 c32_i32_3827
  let v11869 : BitVec 32 := v11868
  let v11873 : Index := Scalar.indexCast v11869
  let c0_3829 : Index := 0#32
  ![v11873.toNat, 0]
def k0_off3 (k0_t1 : Fin k0_t1_loop.trips) : Fin 2 → Nat :=
  let c0_i32_3826 : BitVec 32 := 0#32
  let c0_i32_3815 : BitVec 32 := 0#32
  let c1_i32_3816 : BitVec 32 := 1#32
  let arg28 : BitVec 32 := Scf.iv c0_i32_3815 c1_i32_3816 k0_t1
  let c1_i32_3825 : BitVec 32 := 1#32
  let v11866 : BitVec 32 := Scalar.muli arg28 c1_i32_3825
  let v11867 : BitVec 32 := Scalar.addi c0_i32_3826 v11866
  let c32_i32_3827 : BitVec 32 := 32#32
  let v11868 : BitVec 32 := Scalar.muli v11867 c32_i32_3827
  let v11869 : BitVec 32 := v11868
  let v11910 : Index := Scalar.indexCast v11869
  let c0_3835 : Index := 0#32
  ![v11910.toNat, 0]
def k0_off4 (k0_t1 : Fin k0_t1_loop.trips) : Fin 2 → Nat :=
  let c0_i32_3826 : BitVec 32 := 0#32
  let c0_i32_3815 : BitVec 32 := 0#32
  let c1_i32_3816 : BitVec 32 := 1#32
  let arg28 : BitVec 32 := Scf.iv c0_i32_3815 c1_i32_3816 k0_t1
  let c1_i32_3825 : BitVec 32 := 1#32
  let v11866 : BitVec 32 := Scalar.muli arg28 c1_i32_3825
  let v11867 : BitVec 32 := Scalar.addi c0_i32_3826 v11866
  let c32_i32_3827 : BitVec 32 := 32#32
  let v11868 : BitVec 32 := Scalar.muli v11867 c32_i32_3827
  let v11869 : BitVec 32 := v11868
  let v11914 : Index := Scalar.indexCast v11869
  let c640_3836 : Index := 640#32
  ![v11914.toNat, 640]
@[reducible] def k0_t2_loop : Scf.Loop 32 :=
  let c0_i32_3818 : BitVec 32 := 0#32
  let c40_i32_3819 : BitVec 32 := 40#32
  let v11864 : BitVec 32 := Scalar.addi c0_i32_3818 c40_i32_3819
  let c1_i32_3820 : BitVec 32 := 1#32
  ⟨c0_i32_3818, v11864, c1_i32_3820⟩
def k0_mult2 (k0_t2 : Fin k0_t2_loop.trips) : BitVec 32 :=
  let c0_i32_3826 : BitVec 32 := 0#32
  let c0_i32_3818 : BitVec 32 := 0#32
  let c1_i32_3820 : BitVec 32 := 1#32
  let arg28 : BitVec 32 := Scf.iv c0_i32_3818 c1_i32_3820 k0_t2
  let c1_i32_3825 : BitVec 32 := 1#32
  let v11866 : BitVec 32 := Scalar.muli arg28 c1_i32_3825
  let v11867 : BitVec 32 := Scalar.addi c0_i32_3826 v11866
  let c32_i32_3827 : BitVec 32 := 32#32
  let v11868 : BitVec 32 := Scalar.muli v11867 c32_i32_3827
  v11868
def k0_off5 (k0_t2 : Fin k0_t2_loop.trips) : Fin 2 → Nat :=
  let c0_i32_3826 : BitVec 32 := 0#32
  let c0_i32_3818 : BitVec 32 := 0#32
  let c1_i32_3820 : BitVec 32 := 1#32
  let arg28 : BitVec 32 := Scf.iv c0_i32_3818 c1_i32_3820 k0_t2
  let c1_i32_3825 : BitVec 32 := 1#32
  let v11866 : BitVec 32 := Scalar.muli arg28 c1_i32_3825
  let v11867 : BitVec 32 := Scalar.addi c0_i32_3826 v11866
  let v11870 : Index := Scalar.indexCast v11867
  let c0_3828 : Index := 0#32
  ![v11870.toNat, 0]
def k0_off6 (k0_t2 : Fin k0_t2_loop.trips) : Fin 2 → Nat :=
  let c0_i32_3826 : BitVec 32 := 0#32
  let c0_i32_3818 : BitVec 32 := 0#32
  let c1_i32_3820 : BitVec 32 := 1#32
  let arg28 : BitVec 32 := Scf.iv c0_i32_3818 c1_i32_3820 k0_t2
  let c1_i32_3825 : BitVec 32 := 1#32
  let v11866 : BitVec 32 := Scalar.muli arg28 c1_i32_3825
  let v11867 : BitVec 32 := Scalar.addi c0_i32_3826 v11866
  let c32_i32_3827 : BitVec 32 := 32#32
  let v11868 : BitVec 32 := Scalar.muli v11867 c32_i32_3827
  let v11869 : BitVec 32 := v11868
  let v11873 : Index := Scalar.indexCast v11869
  let c0_3829 : Index := 0#32
  ![v11873.toNat, 0]
def k0_off7 (k0_t2 : Fin k0_t2_loop.trips) : Fin 2 → Nat :=
  let c0_i32_3826 : BitVec 32 := 0#32
  let c0_i32_3818 : BitVec 32 := 0#32
  let c1_i32_3820 : BitVec 32 := 1#32
  let arg28 : BitVec 32 := Scf.iv c0_i32_3818 c1_i32_3820 k0_t2
  let c1_i32_3825 : BitVec 32 := 1#32
  let v11866 : BitVec 32 := Scalar.muli arg28 c1_i32_3825
  let v11867 : BitVec 32 := Scalar.addi c0_i32_3826 v11866
  let c32_i32_3827 : BitVec 32 := 32#32
  let v11868 : BitVec 32 := Scalar.muli v11867 c32_i32_3827
  let v11869 : BitVec 32 := v11868
  let v11910 : Index := Scalar.indexCast v11869
  let c0_3835 : Index := 0#32
  ![v11910.toNat, 0]
def k0_off8 (k0_t2 : Fin k0_t2_loop.trips) : Fin 2 → Nat :=
  let c0_i32_3826 : BitVec 32 := 0#32
  let c0_i32_3818 : BitVec 32 := 0#32
  let c1_i32_3820 : BitVec 32 := 1#32
  let arg28 : BitVec 32 := Scf.iv c0_i32_3818 c1_i32_3820 k0_t2
  let c1_i32_3825 : BitVec 32 := 1#32
  let v11866 : BitVec 32 := Scalar.muli arg28 c1_i32_3825
  let v11867 : BitVec 32 := Scalar.addi c0_i32_3826 v11866
  let c32_i32_3827 : BitVec 32 := 32#32
  let v11868 : BitVec 32 := Scalar.muli v11867 c32_i32_3827
  let v11869 : BitVec 32 := v11868
  let v11914 : Index := Scalar.indexCast v11869
  let c2560_3836 : Index := 2560#32
  ![v11914.toNat, 2560]
@[reducible] def k0_t3_loop : Scf.Loop 32 :=
  let c0_i32_3822 : BitVec 32 := 0#32
  let c160_i32 : BitVec 32 := 160#32
  let v11865 : BitVec 32 := Scalar.addi c0_i32_3822 c160_i32
  let c1_i32_3823 : BitVec 32 := 1#32
  ⟨c0_i32_3822, v11865, c1_i32_3823⟩
def k0_mult3 (k0_t3 : Fin k0_t3_loop.trips) : BitVec 32 :=
  let c0_i32_3826 : BitVec 32 := 0#32
  let c0_i32_3822 : BitVec 32 := 0#32
  let c1_i32_3823 : BitVec 32 := 1#32
  let arg28 : BitVec 32 := Scf.iv c0_i32_3822 c1_i32_3823 k0_t3
  let c1_i32_3825 : BitVec 32 := 1#32
  let v11866 : BitVec 32 := Scalar.muli arg28 c1_i32_3825
  let v11867 : BitVec 32 := Scalar.addi c0_i32_3826 v11866
  let c32_i32_3827 : BitVec 32 := 32#32
  let v11868 : BitVec 32 := Scalar.muli v11867 c32_i32_3827
  v11868
def k0_off9 (k0_t3 : Fin k0_t3_loop.trips) : Fin 2 → Nat :=
  let c0_i32_3826 : BitVec 32 := 0#32
  let c0_i32_3822 : BitVec 32 := 0#32
  let c1_i32_3823 : BitVec 32 := 1#32
  let arg28 : BitVec 32 := Scf.iv c0_i32_3822 c1_i32_3823 k0_t3
  let c1_i32_3825 : BitVec 32 := 1#32
  let v11866 : BitVec 32 := Scalar.muli arg28 c1_i32_3825
  let v11867 : BitVec 32 := Scalar.addi c0_i32_3826 v11866
  let v11870 : Index := Scalar.indexCast v11867
  let c0_3828 : Index := 0#32
  ![v11870.toNat, 0]
def k0_off10 (k0_t3 : Fin k0_t3_loop.trips) : Fin 2 → Nat :=
  let c0_i32_3826 : BitVec 32 := 0#32
  let c0_i32_3822 : BitVec 32 := 0#32
  let c1_i32_3823 : BitVec 32 := 1#32
  let arg28 : BitVec 32 := Scf.iv c0_i32_3822 c1_i32_3823 k0_t3
  let c1_i32_3825 : BitVec 32 := 1#32
  let v11866 : BitVec 32 := Scalar.muli arg28 c1_i32_3825
  let v11867 : BitVec 32 := Scalar.addi c0_i32_3826 v11866
  let c32_i32_3827 : BitVec 32 := 32#32
  let v11868 : BitVec 32 := Scalar.muli v11867 c32_i32_3827
  let v11869 : BitVec 32 := v11868
  let v11873 : Index := Scalar.indexCast v11869
  let c0_3829 : Index := 0#32
  ![v11873.toNat, 0]
def k0_off11 (k0_t3 : Fin k0_t3_loop.trips) : Fin 2 → Nat :=
  let c0_i32_3826 : BitVec 32 := 0#32
  let c0_i32_3822 : BitVec 32 := 0#32
  let c1_i32_3823 : BitVec 32 := 1#32
  let arg28 : BitVec 32 := Scf.iv c0_i32_3822 c1_i32_3823 k0_t3
  let c1_i32_3825 : BitVec 32 := 1#32
  let v11866 : BitVec 32 := Scalar.muli arg28 c1_i32_3825
  let v11867 : BitVec 32 := Scalar.addi c0_i32_3826 v11866
  let c32_i32_3827 : BitVec 32 := 32#32
  let v11868 : BitVec 32 := Scalar.muli v11867 c32_i32_3827
  let v11869 : BitVec 32 := v11868
  let v11910 : Index := Scalar.indexCast v11869
  let c0_3835 : Index := 0#32
  ![v11910.toNat, 0]
def k0_off12 (k0_t3 : Fin k0_t3_loop.trips) : Fin 2 → Nat :=
  let c0_i32_3826 : BitVec 32 := 0#32
  let c0_i32_3822 : BitVec 32 := 0#32
  let c1_i32_3823 : BitVec 32 := 1#32
  let arg28 : BitVec 32 := Scf.iv c0_i32_3822 c1_i32_3823 k0_t3
  let c1_i32_3825 : BitVec 32 := 1#32
  let v11866 : BitVec 32 := Scalar.muli arg28 c1_i32_3825
  let v11867 : BitVec 32 := Scalar.addi c0_i32_3826 v11866
  let c32_i32_3827 : BitVec 32 := 32#32
  let v11868 : BitVec 32 := Scalar.muli v11867 c32_i32_3827
  let v11869 : BitVec 32 := v11868
  let v11914 : Index := Scalar.indexCast v11869
  let c640_3836 : Index := 640#32
  ![v11914.toNat, 640]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1280x640 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x1280 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1280x2560 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S40x5120 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5120x640 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S160x1280 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1280 .fp8e4m3 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x40 .i8 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x5120 .fp8e4m3 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x160 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x1280 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1280 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== ReferenceIdeal.lean ====
abbrev S24064x1280 : Shape := ⟨2, ![24064, 1280]⟩
abbrev S1280x640 : Shape := ⟨2, ![1280, 640]⟩
abbrev S40x1280 : Shape := ⟨2, ![40, 1280]⟩
abbrev S1280 : Shape := ⟨1, ![1280]⟩
abbrev S1280x2560 : Shape := ⟨2, ![1280, 2560]⟩
abbrev S40x5120 : Shape := ⟨2, ![40, 5120]⟩
abbrev S5120 : Shape := ⟨1, ![5120]⟩
abbrev S5120x640 : Shape := ⟨2, ![5120, 640]⟩
abbrev S160x1280 : Shape := ⟨2, ![160, 1280]⟩
abbrev S24064x40 : Shape := ⟨2, ![24064, 40]⟩
abbrev S24064x5120 : Shape := ⟨2, ![24064, 5120]⟩
abbrev S24064x160 : Shape := ⟨2, ![24064, 160]⟩
abbrev S40x1x1280 : Shape := ⟨3, ![40, 1, 1280]⟩
abbrev S40x32x640 : Shape := ⟨3, ![40, 32, 640]⟩
abbrev S40x1x640 : Shape := ⟨3, ![40, 1, 640]⟩
abbrev S24064x640 : Shape := ⟨2, ![24064, 640]⟩
abbrev S1x1280 : Shape := ⟨2, ![1, 1280]⟩
abbrev S24064 : Shape := ⟨1, ![24064]⟩
abbrev S24064x1 : Shape := ⟨2, ![24064, 1]⟩
abbrev S24064x40x32 : Shape := ⟨3, ![24064, 40, 32]⟩
abbrev S24064x40x252 : Shape := ⟨3, ![24064, 40, 252]⟩
abbrev S24064x40x1 : Shape := ⟨3, ![24064, 40, 1]⟩
abbrev S40x1x5120 : Shape := ⟨3, ![40, 1, 5120]⟩
abbrev S40x32x2560 : Shape := ⟨3, ![40, 32, 2560]⟩
abbrev S40x1x2560 : Shape := ⟨3, ![40, 1, 2560]⟩
abbrev S24064x2560 : Shape := ⟨2, ![24064, 2560]⟩
abbrev S1x5120 : Shape := ⟨2, ![1, 5120]⟩
abbrev S24064x160x32 : Shape := ⟨3, ![24064, 160, 32]⟩
abbrev S24064x160x252 : Shape := ⟨3, ![24064, 160, 252]⟩
abbrev S24064x160x1 : Shape := ⟨3, ![24064, 160, 1]⟩
abbrev S160x1x1280 : Shape := ⟨3, ![160, 1, 1280]⟩
abbrev S160x32x640 : Shape := ⟨3, ![160, 32, 640]⟩
abbrev S160x1x640 : Shape := ⟨3, ![160, 1, 640]⟩

abbrev nBuf : Space → Nat
  | .hbm => 19
  | .vmem => 19
  | .smem => 0
  | _ => 0

abbrev bufTy : (tb : Table) → Fin (tcTables nBuf tb) → BufTy
  | .hbm, ⟨0, _⟩ => ⟨S24064x1280, .bf16⟩
  | .hbm, ⟨1, _⟩ => ⟨S24064x1280, .bf16⟩
  | .hbm, ⟨2, _⟩ => ⟨S1280x640, .i8⟩
  | .hbm, ⟨3, _⟩ => ⟨S40x1280, .i8⟩
  | .hbm, ⟨4, _⟩ => ⟨S1280, .f32⟩
  | .hbm, ⟨5, _⟩ => ⟨S1280, .f32⟩
  | .hbm, ⟨6, _⟩ => ⟨S1280, .f32⟩
  | .hbm, ⟨7, _⟩ => ⟨S1280x2560, .i8⟩
  | .hbm, ⟨8, _⟩ => ⟨S40x5120, .i8⟩
  | .hbm, ⟨9, _⟩ => ⟨S5120, .f32⟩
  | .hbm, ⟨10, _⟩ => ⟨S5120x640, .i8⟩
  | .hbm, ⟨11, _⟩ => ⟨S160x1280, .i8⟩
  | .hbm, ⟨12, _⟩ => ⟨S1280, .f32⟩
  | .hbm, ⟨13, _⟩ => ⟨S24064x1280, .fp8e4m3⟩
  | .hbm, ⟨14, _⟩ => ⟨S24064x40, .i8⟩
  | .hbm, ⟨15, _⟩ => ⟨S24064x5120, .fp8e4m3⟩
  | .hbm, ⟨16, _⟩ => ⟨S24064x160, .i8⟩
  | .hbm, ⟨17, _⟩ => ⟨S24064x1280, .f32⟩
  | .hbm, ⟨18, _⟩ => ⟨S24064x1280, .bf16⟩
  | .local _ .vmem, ⟨0, _⟩ => ⟨S24064x1280, .bf16⟩
  | .local _ .vmem, ⟨1, _⟩ => ⟨S24064x1280, .bf16⟩
  | .local _ .vmem, ⟨2, _⟩ => ⟨S1280x640, .i8⟩
  | .local _ .vmem, ⟨3, _⟩ => ⟨S40x1280, .i8⟩
  | .local _ .vmem, ⟨4, _⟩ => ⟨S1280, .f32⟩
  | .local _ .vmem, ⟨5, _⟩ => ⟨S1280, .f32⟩
  | .local _ .vmem, ⟨6, _⟩ => ⟨S1280, .f32⟩
  | .local _ .vmem, ⟨7, _⟩ => ⟨S1280x2560, .i8⟩
  | .local _ .vmem, ⟨8, _⟩ => ⟨S40x5120, .i8⟩
  | .local _ .vmem, ⟨9, _⟩ => ⟨S5120, .f32⟩
  | .local _ .vmem, ⟨10, _⟩ => ⟨S5120x640, .i8⟩
  | .local _ .vmem, ⟨11, _⟩ => ⟨S160x1280, .i8⟩
  | .local _ .vmem, ⟨12, _⟩ => ⟨S1280, .f32⟩
  | .local _ .vmem, ⟨13, _⟩ => ⟨S24064x1280, .fp8e4m3⟩
  | .local _ .vmem, ⟨14, _⟩ => ⟨S24064x40, .i8⟩
  | .local _ .vmem, ⟨15, _⟩ => ⟨S24064x5120, .fp8e4m3⟩
  | .local _ .vmem, ⟨16, _⟩ => ⟨S24064x160, .i8⟩
  | .local _ .vmem, ⟨17, _⟩ => ⟨S24064x1280, .f32⟩
  | .local _ .vmem, ⟨18, _⟩ => ⟨S24064x1280, .bf16⟩
  | _, _ => ⟨S24064x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0_0 : Ref sig .tc := ⟨.hbm, 13, rfl⟩
abbrev main_v0_1 : Ref sig .tc := ⟨.hbm, 14, rfl⟩
abbrev main_v0_2 : Ref sig .tc := ⟨.hbm, 15, rfl⟩
abbrev main_v0_3 : Ref sig .tc := ⟨.hbm, 16, rfl⟩
abbrev main_v0_4 : Ref sig .tc := ⟨.hbm, 17, rfl⟩
abbrev main_v0_5 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18

abbrev nD : Nat := 1
abbrev τ : Topo := Topo.v7x

variable {F : FTy → Type} [FloatOps F]

abbrev grid0 : Pipeline.Grid := .none

abbrev stage0_0 : Fin 1 → Memref sig .tc .vmem S24064x1280 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24064x1280 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1280x640 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S40x1280 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1280 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1280 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1280 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1280x2560 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S40x5120 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S5120x640 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S160x1280 .i8 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1280 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S24064x1280 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S24064x40 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S24064x5120 .fp8e4m3 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S24064x160 .i8 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S24064x1280 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S24064x1280 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
-- ==== Proof.Words.lean ====
/- Words of the group scale: two eight-bit fields packed in one 32-bit word, one above bit 23 and one above bit 7. -/
module

public import Idealize.ShloMosaic.Lib.Pointwise
public import Idealize.ShloMosaic.Lib.BitcastPair

@[expose] public section
set_option maxRecDepth 16384
noncomputable section
namespace Mx
open Idealize.ShloMosaic

/-- A shift by a fixed amount below the width, to the left. -/
theorem shli_toNat (u : ArithUnit) (x : BitVec 32) (n : ℕ) (h : n < 32) :
    (IntOp.shli u x (BitVec.ofNat 32 n)).toNat = x.toNat * 2 ^ n % 4294967296 := by
  have hn : (BitVec.ofNat 32 n).toNat = n := by rw [BitVec.toNat_ofNat]; omega
  unfold IntOp.shli
  rw [hn, if_pos h, BitVec.shiftLeft_eq', hn, BitVec.toNat_shiftLeft, Nat.shiftLeft_eq]

/-- A shift by a fixed amount below the width, to the right. -/
theorem shrui_toNat (u : ArithUnit) (x : BitVec 32) (n : ℕ) (h : n < 32) :
    (IntOp.shrui u x (BitVec.ofNat 32 n)).toNat = x.toNat / 2 ^ n := by
  have hn : (BitVec.ofNat 32 n).toNat = n := by rw [BitVec.toNat_ofNat]; omega
  unfold IntOp.shrui
  rw [hn, if_pos h, BitVec.ushiftRight_eq', hn, BitVec.toNat_ushiftRight, Nat.shiftRight_eq_div_pow]

/-- The packed word: field `x` from bit 23 on, field `y` from bit 7 on. -/
def W (x y : ℕ) : BitVec 32 := BitVec.ofNat 32 (x * 8388608 + y * 128)

/-- The field alone, in the place of an `f32` exponent. -/
def E (x : ℕ) : BitVec 32 := BitVec.ofNat 32 (x * 8388608)

/-- The scale byte of a field: 127 for the zero field, else the field plus one. -/
def sB (f : ℕ) : ℕ := if f = 0 then 127 else f + 1

/-- A scale byte is at most 253. -/
theorem sB_le {f : ℕ} (h : f ≤ 252) : sB f ≤ 253 := by unfold sB; split <;> omega
/-- A scale byte is at least 1. -/
theorem sB_pos (f : ℕ) : 1 ≤ sB f := by unfold sB; split <;> omega

/-- A field shifted to the exponent's place. -/
theorem shli_E (u : ArithUnit) (x : ℕ) (hx : x < 256) : IntOp.shli u (BitVec.ofNat 32 x) 23#32 = E x := by
  apply BitVec.eq_of_toNat_eq
  rw [shli_toNat u _ 23 (by omega)]
  unfold E
  rw [BitVec.toNat_ofNat, BitVec.toNat_ofNat]
  omega

/-- The smaller of a field and 252. -/
theorem minsi_252 (x : ℕ) (hx : x < 256) : IntOp.minsi (BitVec.ofNat 32 x) 252#32 = BitVec.ofNat 32 (min x 252) := by
  have key : ∀ x : Fin 256, IntOp.minsi (BitVec.ofNat 32 x.val) 252#32 = BitVec.ofNat 32 (min x.val 252) := by decide +kernel
  exact key ⟨x, hx⟩

/-- Two shifted fields packed in one word. -/
theorem pack_W (x y : ℕ) (hx : x < 256) (hy : y < 256) :
    IntOp.andi (IntOp.ori (IntOp.andi (E x) 4294901760#32) (IntOp.shrui .vector (E y) 16#32)) 2147450879#32 = W x y := by
  have kx : ∀ x : Fin 256, (E x.val &&& 4294901760#32) &&& 2147450879#32 = E x.val := by unfold E; decide +kernel
  have ky : ∀ y : Fin 256, (E y.val >>> 16) &&& 2147450879#32 = BitVec.ofNat 32 (y.val * 128) := by unfold E; decide +kernel
  have e : IntOp.shrui .vector (E y) 16#32 = E y >>> 16 := by
    unfold IntOp.shrui; rw [if_pos (by decide)]; rfl
  rw [e]
  unfold IntOp.andi IntOp.ori
  have d : ((E x &&& 4294901760#32) ||| (E y >>> 16)) &&& 2147450879#32
      = (E x &&& 4294901760#32 &&& 2147450879#32) ||| ((E y >>> 16) &&& 2147450879#32) := by
    apply BitVec.eq_of_getLsbD_eq; intro i hi
    simp only [BitVec.getLsbD_and, BitVec.getLsbD_or, Bool.and_or_distrib_right]
  rw [d, kx ⟨x, hx⟩, ky ⟨y, hy⟩]
  apply BitVec.eq_of_toNat_eq
  simp only [E, W, BitVec.toNat_or, BitVec.toNat_ofNat]
  have h1 : x * 8388608 % 2 ^ 32 = x <<< 23 := by rw [Nat.shiftLeft_eq]; omega
  have h2 : y * 128 % 2 ^ 32 = y * 128 := by omega
  rw [h1, h2, ← Nat.shiftLeft_add_eq_or_of_lt (by omega : y * 128 < 8388608), Nat.shiftLeft_eq]
  omega

/-- The word of two bytes, as a number. -/
theorem W_toNat (x y : ℕ) (hx : x < 256) (hy : y < 256) : (W x y).toNat = x * 8388608 + y * 128 := by
  unfold W; rw [BitVec.toNat_ofNat]; omega

/-- The upper field of a packed word. -/
theorem shrui_W (x y : ℕ) (hx : x < 256) (hy : y < 256) : IntOp.shrui .vector (W x y) 23#32 = BitVec.ofNat 32 x := by
  apply BitVec.eq_of_toNat_eq
  rw [shrui_toNat _ _ 23 (by omega), W_toNat x y hx hy, BitVec.toNat_ofNat]
  omega

/-- The lower field of a packed word. -/
theorem andi_shrui_W (x y : ℕ) (hx : x < 256) (hy : y < 256) :
    IntOp.andi (IntOp.shrui .vector (W x y) 7#32) 255#32 = BitVec.ofNat 32 y := by
  apply BitVec.eq_of_toNat_eq
  have h255 : (255#32).toNat = 2 ^ 8 - 1 := rfl
  unfold IntOp.andi
  rw [BitVec.toNat_and, h255, Nat.and_two_pow_sub_one_eq_mod, shrui_toNat _ _ 7 (by omega), W_toNat x y hx hy, BitVec.toNat_ofNat]
  omega

/-- The scale byte of a field, in words. -/
theorem byte_word (x : ℕ) (hx : x < 256) :
    (if BitVec.ofNat 32 x = 0#32 then 127#32 else IntOp.addi (BitVec.ofNat 32 x) 1#32) = BitVec.ofNat 32 (sB x) := by
  have key : ∀ x : Fin 256, (if BitVec.ofNat 32 x.val = 0#32 then 127#32 else IntOp.addi (BitVec.ofNat 32 x.val) 1#32)
      = BitVec.ofNat 32 (sB x.val) := by unfold sB IntOp.addi; decide +kernel
  exact key ⟨x, hx⟩

/-- The inverse scale's word: both fields `254 − byte`. -/
theorem inv_word (x y : ℕ) (hx : x ≤ 254) (hy : y ≤ 254) :
    IntOp.ori (IntOp.shli .vector (IntOp.subi 254#32 (BitVec.ofNat 32 x)) 23#32) (IntOp.shli .vector (IntOp.subi 254#32 (BitVec.ofNat 32 y)) 7#32)
      = W (254 - x) (254 - y) := by
  have s : ∀ z : ℕ, z ≤ 254 → IntOp.subi 254#32 (BitVec.ofNat 32 z) = BitVec.ofNat 32 (254 - z) := fun z hz => by
    unfold IntOp.subi
    apply BitVec.eq_of_toNat_eq
    simp only [BitVec.toNat_sub, BitVec.toNat_ofNat]; omega
  rw [s x hx, s y hy]
  have h1 : (IntOp.shli .vector (BitVec.ofNat 32 (254 - x)) 23#32).toNat = (254 - x) <<< 23 := by
    rw [shli_toNat _ _ 23 (by omega), BitVec.toNat_ofNat, Nat.shiftLeft_eq]; omega
  have h2 : (IntOp.shli .vector (BitVec.ofNat 32 (254 - y)) 7#32).toNat = (254 - y) * 128 := by
    rw [shli_toNat _ _ 7 (by omega), BitVec.toNat_ofNat]; omega
  apply BitVec.eq_of_toNat_eq
  unfold IntOp.ori
  rw [BitVec.toNat_or, h1, h2, ← Nat.shiftLeft_add_eq_or_of_lt (by omega : (254 - y) * 128 < 2 ^ 23), Nat.shiftLeft_eq,
    W_toNat _ _ (by omega) (by omega)]

/-- The word of the scales from the word of the inverse scales. -/
theorem sum_sub_W (x y : ℕ) (hx : x ≤ 254) (hy : y ≤ 254) : IntOp.subi 2130738944#32 (W (254 - x) (254 - y)) = W x y := by
  unfold IntOp.subi
  apply BitVec.eq_of_toNat_eq
  rw [BitVec.toNat_sub, W_toNat _ _ (by omega) (by omega), W_toNat _ _ (by omega) (by omega), BitVec.toNat_ofNat]
  omega

/-- The upper field kept in place. -/
theorem hi_W (x y : ℕ) (hx : x < 256) (hy : y < 256) : IntOp.andi (W x y) 4294901760#32 = E x := by
  unfold IntOp.andi
  have m : ∀ w : BitVec 32, w &&& 4294901760#32 = (w >>> 16) <<< 16 := fun w => by
    apply BitVec.eq_of_getLsbD_eq; intro i hi
    have hm : (4294901760#32 : BitVec 32).getLsbD i = decide (16 ≤ i) := by
      have key : ∀ i : Fin 32, (4294901760#32 : BitVec 32).getLsbD i.val = decide (16 ≤ i.val) := by decide
      exact key ⟨i, hi⟩
    rw [BitVec.getLsbD_and, hm, BitVec.getLsbD_shiftLeft, BitVec.getLsbD_ushiftRight]
    by_cases h : 16 ≤ i
    · have : ¬ i < 16 := by omega
      have e : 16 + (i - 16) = i := by omega
      simp [h, this, hi, e]
    · have : i < 16 := by omega
      simp [h, this]
  rw [m]
  apply BitVec.eq_of_toNat_eq
  simp only [BitVec.toNat_shiftLeft, BitVec.toNat_ushiftRight, W_toNat x y hx hy, E, BitVec.toNat_ofNat, Nat.shiftRight_eq_div_pow,
    Nat.shiftLeft_eq]
  omega

/-- The lower field moved to the upper place. -/
theorem lo_W (x y : ℕ) (hx : x < 256) (hy : y < 256) : IntOp.shli .vector (W x y) 16#32 = E y := by
  apply BitVec.eq_of_toNat_eq
  rw [shli_toNat _ _ 16 (by omega), W_toNat x y hx hy]
  unfold E
  rw [BitVec.toNat_ofNat]
  omega

/-- The halves of a packed word. -/
theorem half_W (x y : ℕ) (hx : x < 256) (hy : y < 256) :
    (W x y).extractLsb' 16 16 = BitVec.ofNat 16 (x * 128) ∧ (W x y).extractLsb' 0 16 = BitVec.ofNat 16 (y * 128) := by
  have hw := W_toNat x y hx hy
  generalize W x y = w at hw
  constructor
  · apply BitVec.eq_of_toNat_eq
    rw [BitVec.extractLsb'_toNat, hw, BitVec.toNat_ofNat, Nat.shiftRight_eq_div_pow]
    omega
  · apply BitVec.eq_of_toNat_eq
    rw [BitVec.extractLsb'_toNat, hw, BitVec.toNat_ofNat, Nat.shiftRight_eq_div_pow]
    omega

/-- Two halves joined. -/
theorem join_W (x y : ℕ) (hx : x < 256) (hy : y < 256) :
    (BitVec.ofNat 16 (x * 128) ++ BitVec.ofNat 16 (y * 128) : BitVec 32) = W x y := by
  apply BitVec.eq_of_toNat_eq
  rw [BitVec.toNat_append, W_toNat x y hx hy, ← Nat.shiftLeft_add_eq_or_of_lt (BitVec.isLt _), Nat.shiftLeft_eq]
  simp only [BitVec.toNat_ofNat]
  omega

/-- The larger of two halves. -/
theorem maxsi_half (x y : ℕ) (hx : x < 256) (hy : y < 256) :
    IntOp.maxsi (BitVec.ofNat 16 (x * 128)) (BitVec.ofNat 16 (y * 128)) = BitVec.ofNat 16 (max x y * 128) := by
  unfold IntOp.maxsi
  have tx : ∀ z : ℕ, z < 256 → (BitVec.ofNat 16 (z * 128)).toInt = (z * 128 : ℕ) := fun z hz => by
    rw [BitVec.toInt_eq_toNat_of_lt (by rw [BitVec.toNat_ofNat]; omega), BitVec.toNat_ofNat]
    congr 1; omega
  have : (BitVec.ofNat 16 (y * 128)).slt (BitVec.ofNat 16 (x * 128)) = decide (y < x) := by
    rw [BitVec.slt_eq_decide, tx x hx, tx y hy]
    congr 1
    exact propext ⟨fun h => by omega, fun h => by omega⟩
  rw [this]
  by_cases h : y < x
  · rw [if_pos (by simpa using h), max_eq_left h.le]
  · rw [if_neg (by simpa using h), max_eq_right (by omega)]

end Mx
-- ==== Proof.Field.lean ====
/- The exponent field of a nonnegative number, found by comparing it with powers of two. -/
module

public import proofs.«01_k».proof.Proof.Words

@[expose] public section
set_option maxRecDepth 16384
noncomputable section
namespace Mx
open Idealize.ShloMosaic

/-- A power of two among the extended reals. -/
def pw (k : ℤ) : EReal := ((2 : ℝ) ^ k : ℝ)

/-- The powers of two are monotone in the exponent. -/
theorem pw_mono {a b : ℤ} (h : a ≤ b) : pw a ≤ pw b := by
  unfold pw
  exact_mod_cast zpow_le_zpow_right₀ (by norm_num : (1 : ℝ) ≤ 2) h

/-- A power of two is positive. -/
theorem pw_pos (k : ℤ) : 0 < pw k := by unfold pw; exact_mod_cast zpow_pos (by norm_num : (0 : ℝ) < 2) k

/-- The value of a word that holds only an exponent field. -/
theorem ofBits_E (n : ℕ) (h1 : 1 ≤ n) (h2 : n ≤ 254) : Ideal.ofBits .f32 (E n) = pw ((n : ℤ) - 127) := by
  have ht : (E n).toNat = n * 8388608 := by unfold E; rw [BitVec.toNat_ofNat]; omega
  have a0 : ((E n).extractLsb' (8 + 23) 1 == 1#1) = false := by
    have : (E n).extractLsb' (8 + 23) 1 = 0#1 := by
      apply BitVec.eq_of_toNat_eq
      rw [BitVec.extractLsb'_toNat, ht, Nat.shiftRight_eq_div_pow]
      norm_num; omega
    rw [this]; rfl
  have a1 : ((E n).extractLsb' 23 8).toNat = n := by
    rw [BitVec.extractLsb'_toNat, ht, Nat.shiftRight_eq_div_pow]; omega
  have a2 : ((E n).extractLsb' 0 23).toNat = 0 := by
    rw [BitVec.extractLsb'_toNat, ht, Nat.shiftRight_eq_div_pow]; omega
  show Ideal.ieee 8 23 (E n) = _
  unfold Ideal.ieee
  simp only [a0, a1, a2]
  rw [if_neg (by omega), if_neg (by omega)]
  unfold pw
  congr 1
  have e : (n : ℤ) - (2 ^ (8 - 1) - 1) - (23 : ℕ) = ((n : ℤ) - 127) - 23 := by norm_num
  rw [e, zpow_sub₀ (by norm_num : (2 : ℝ) ≠ 0)]
  norm_num
  ring

/-- The word with exponent field 255 and no mantissa is infinity. -/
theorem ofBits_E255 : Ideal.ofBits .f32 (E 255) = ⊤ := by
  have : E 255 = 0x7F800000#32 := by decide
  rw [this]
  simp [Ideal.ofBits, Ideal.ieee]

/-- The word with exponent field 0 and no mantissa is zero. -/
theorem ofBits_E0 : Ideal.ofBits .f32 (E 0) = 0 := by
  have : E 0 = 0#32 := by decide
  rw [this]
  exact Ideal.ofBits_zero_f32

/-- The values of exponent fields grow with the field. -/
theorem val_mono {a b : ℕ} (h1 : 1 ≤ a) (h : a ≤ b) (h2 : b ≤ 255) : Ideal.ofBits .f32 (E a) ≤ Ideal.ofBits .f32 (E b) := by
  by_cases hb : b = 255
  · subst hb; rw [ofBits_E255]; exact le_top
  · rw [ofBits_E a h1 (by omega), ofBits_E b (by omega) (by omega)]
    exact pw_mono (by omega)

/-- One comparison of the ladder. -/
def step (t : EReal) (e b : BitVec 32) : BitVec 32 :=
  if Ideal.ofBits .f32 (IntOp.shli .vector (IntOp.addi e b) 23#32) ≤ t then IntOp.addi e b else e

/-- The eight comparisons. -/
def lad8 (t : EReal) : BitVec 32 :=
  step t (step t (step t (step t (step t (step t (step t (step t 0#32 128#32) 64#32) 32#32) 16#32) 8#32) 4#32) 2#32) 1#32

private def Inv (t : EReal) (w : ℕ) (e : BitVec 32) : Prop :=
  ∃ n : ℕ, e = BitVec.ofNat 32 n ∧ n + w ≤ 256 ∧ ∀ k, 1 ≤ k → k ≤ 255 →
    (k ≤ n → Ideal.ofBits .f32 (E k) ≤ t) ∧ (n + w ≤ k → ¬ Ideal.ofBits .f32 (E k) ≤ t)

/-- One step of the binary search keeps its invariant at half the width. -/
private theorem inv_step (t : EReal) (w : ℕ) (hw : 1 ≤ w) (e : BitVec 32) (h : Inv t (2 * w) e) : Inv t w (step t e (BitVec.ofNat 32 w)) := by
  obtain ⟨n, he, hn, hk⟩ := h
  have ha : IntOp.addi e (BitVec.ofNat 32 w) = BitVec.ofNat 32 (n + w) := by
    unfold IntOp.addi; rw [he, ← BitVec.ofNat_add]
  unfold step
  rw [ha, shli_E _ _ (by omega)]
  by_cases c : Ideal.ofBits .f32 (E (n + w)) ≤ t
  · rw [if_pos c]
    refine ⟨n + w, rfl, by omega, fun k h1 h2 => ⟨fun h => ?_, fun h => (hk k h1 h2).2 (by omega)⟩⟩
    exact le_trans (val_mono h1 h (by omega)) c
  · rw [if_neg c, he]
    refine ⟨n, rfl, by omega, fun k h1 h2 => ⟨(hk k h1 h2).1, fun h c' => c ?_⟩⟩
    exact le_trans (val_mono (by omega) h h2) c'

/-- The ladder finds the largest field whose value is not above `t`. -/
theorem lad8_spec (t : EReal) : ∃ n : ℕ, lad8 t = BitVec.ofNat 32 n ∧ n < 256 ∧
    ∀ k, 1 ≤ k → k ≤ 255 → (Ideal.ofBits .f32 (E k) ≤ t ↔ k ≤ n) := by
  have h0 : Inv t 256 0#32 := ⟨0, rfl, by omega, fun k h1 h2 => ⟨fun h => by omega, fun h => by omega⟩⟩
  obtain ⟨n, he, hn, hk⟩ := inv_step t 1 (by omega) _ (inv_step t 2 (by omega) _ (inv_step t 4 (by omega) _ (inv_step t 8 (by omega) _
    (inv_step t 16 (by omega) _ (inv_step t 32 (by omega) _ (inv_step t 64 (by omega) _ (inv_step t 128 (by omega) _ h0)))))))
  refine ⟨n, he, by omega, fun k h1 h2 => ⟨fun h => ?_, (hk k h1 h2).1⟩⟩
  by_contra c
  exact (hk k h1 h2).2 (by omega) h

/-- The field of a number: how many of the 252 powers `2^(-126) … 2^125` are not above it. -/
def fld (t : EReal) : ℕ := (Finset.univ.filter fun k : Fin 252 => pw ((k.val : ℤ) - 126) ≤ t).card

/-- The field of a value is at most 252. -/
theorem fld_le (t : EReal) : fld t ≤ 252 := le_trans (Finset.card_le_univ _) (by simp)

/-- The field is monotone in the value. -/
theorem fld_mono {s t : EReal} (h : s ≤ t) : fld s ≤ fld t := by
  apply Finset.card_le_card
  intro k hk
  simp only [Finset.mem_filter, Finset.mem_univ, true_and] at hk ⊢
  exact le_trans hk h

/-- The field of a maximum is the maximum of the fields. -/
theorem fld_max (s t : EReal) : fld (max s t) = max (fld s) (fld t) := by
  rcases le_total s t with h | h
  · rw [max_eq_right h, max_eq_right (fld_mono h)]
  · rw [max_eq_left h, max_eq_left (fld_mono h)]

/-- The ladder's result, capped, is the field. -/
theorem min_lad8 (t : EReal) : IntOp.minsi (lad8 t) 252#32 = BitVec.ofNat 32 (fld t) := by
  obtain ⟨n, he, hn, hk⟩ := lad8_spec t
  rw [he, minsi_252 n hn]
  congr 1
  unfold fld
  have : (Finset.univ.filter fun k : Fin 252 => pw ((k.val : ℤ) - 126) ≤ t) = Finset.univ.filter fun k : Fin 252 => k.val < n := by
    apply Finset.filter_congr
    intro k _
    have := hk (k.val + 1) (by omega) (by omega)
    rw [ofBits_E _ (by omega) (by omega)] at this
    have e : ((k.val + 1 : ℕ) : ℤ) - 127 = (k.val : ℤ) - 126 := by push_cast; ring
    rw [e] at this
    rw [this]; omega
  rw [this]
  rw [Fin.card_filter_val_lt]
  omega

end Mx
-- ==== Proof.Quant.lean ====
/- The quantiser of one pair of 128-column tiles as the kernel computes it, on packed words. -/
module

public import proofs.«01_k».proof.Proof.Field

@[expose] public section
set_option maxRecDepth 16384
noncomputable section
namespace Mx
open Idealize.ShloMosaic

abbrev T : Shape := ⟨2, ![256, 128]⟩
abbrev Tt : Shape := ⟨2, ![128, 256]⟩
abbrev G8 : Shape := ⟨2, ![8, 256]⟩
abbrev G16 : Shape := ⟨2, ![16, 256]⟩
abbrev G1 : Shape := ⟨2, ![1, 256]⟩

/-- Which word of the 8-row array an element of the 16-row half-word array is read from. -/
theorem src8 (h : Shape.Bitcasts G8 32 G16 16) (s : Fin 16) (r : Fin 256) (p : ℕ) (hp) (hq : p < 8) :
    h.srcIdx (ix2 s r) p hp = ix2 ⟨p, hq⟩ r := by
  funext a
  fin_cases a
  · exact Fin.ext (h.srcIdx_row _ p hp 0 rfl)
  · exact Fin.ext (h.srcIdx_other _ p hp 1 (by decide))

/-- Which half-words of the 16-row array a word of the 8-row array is read from. -/
theorem src16 (h : Shape.Bitcasts G16 16 G8 32) (s : Fin 8) (r : Fin 256) (p : ℕ) (hp) (hq : p < 16) :
    h.srcIdx (ix2 s r) p hp = ix2 ⟨p, hq⟩ r := by
  funext a
  fin_cases a
  · exact Fin.ext (h.srcIdx_row _ p hp 0 rfl)
  · exact Fin.ext (h.srcIdx_other _ p hp 1 (by decide))

/-- The larger of two packed words, half by half. -/
def max2 (a b : IVec G8 32) : IVec G8 32 :=
  bitcast G8 32 (maxsi (bitcast G16 16 a (by decide)) (bitcast G16 16 b (by decide))) (by decide)

/-- The half-words of a word: its low 16 bits in the even row, its high 16 bits in the odd row. -/
theorem half_apply (a : IVec G8 32) (h : Shape.Bitcasts G8 32 G16 16) (s : Fin 8) (r : Fin 256) (q : ℕ) (hq : q < 2) (hs : 2 * s.val + q < 16) :
    bitcast G16 16 a h (ix2 ⟨2 * s.val + q, hs⟩ r) = (a (ix2 s r)).extractLsb' (16 * q) 16 := by
  rw [bitcast_32_16]
  have e2 : G16.row (ix2 ⟨2 * s.val + q, hs⟩ r) % 2 = q := by
    show (2 * s.val + q) % 2 = q
    omega
  have e3 : G16.row (ix2 ⟨2 * s.val + q, hs⟩ r) / 2 = s.val := by
    show (2 * s.val + q) / 2 = s.val
    omega
  simp only [e2]
  rw [h.srcIdx_congr _ e3 _ (fun a ha => by fin_cases a <;> first | exact s.isLt | exact absurd ha (by decide)), src8 h _ r s.val _ s.isLt]

/-- On packed words it is the larger of each field. -/
theorem max2_apply (a b : IVec G8 32) (s : Fin 8) (r : Fin 256) {x y x' y' : ℕ} (hx : x < 256) (hy : y < 256) (hx' : x' < 256) (hy' : y' < 256)
    (ha : a (ix2 s r) = W x y) (hb : b (ix2 s r) = W x' y') : max2 a b (ix2 s r) = W (max x x') (max y y') := by
  unfold max2
  rw [bitcast_16_32]
  rw [show ∀ h hp, Shape.Bitcasts.srcIdx (s := G16) (v := 16) (t := G8) (w := 32) h (ix2 s r) (2 * G8.row (ix2 s r) + 1) hp = ix2 ⟨2 * s.val + 1, by omega⟩ r from
      fun h hp => src16 h s r (2 * s.val + 1) hp (by omega),
    show ∀ h hp, Shape.Bitcasts.srcIdx (s := G16) (v := 16) (t := G8) (w := 32) h (ix2 s r) (2 * G8.row (ix2 s r)) hp = ix2 ⟨2 * s.val, by omega⟩ r from
      fun h hp => src16 h s r (2 * s.val) hp (by omega)]
  rw [show maxsi (bitcast G16 16 a (by decide)) (bitcast G16 16 b (by decide)) (ix2 ⟨2 * s.val + 1, by omega⟩ r)
      = IntOp.maxsi (bitcast G16 16 a (by decide) (ix2 ⟨2 * s.val + 1, by omega⟩ r)) (bitcast G16 16 b (by decide) (ix2 ⟨2 * s.val + 1, by omega⟩ r)) from rfl,
    show maxsi (bitcast G16 16 a (by decide)) (bitcast G16 16 b (by decide)) (ix2 ⟨2 * s.val, by omega⟩ r)
      = IntOp.maxsi (bitcast G16 16 a (by decide) (ix2 ⟨2 * s.val + 0, by omega⟩ r)) (bitcast G16 16 b (by decide) (ix2 ⟨2 * s.val + 0, by omega⟩ r)) from rfl,
    half_apply a _ s r 1 (by omega), half_apply b _ s r 1 (by omega), half_apply a _ s r 0 (by omega), half_apply b _ s r 0 (by omega), ha, hb]
  rw [show (16 * 1 : ℕ) = 16 from rfl, show (16 * 0 : ℕ) = 0 from rfl, (half_W x y hx hy).1, (half_W x y hx hy).2, (half_W x' y' hx' hy').1,
    (half_W x' y' hx' hy').2, maxsi_half x x' hx hx', maxsi_half y y' hy hy', join_W _ _ (by omega) (by omega)]

/-- The rows moved down by `k`, cyclically, and the larger taken. -/
def rot4 (m : IVec G8 32) : IVec G8 32 := max2 m (dynamicRotate 0 4#32 none m (by decide))
def rot2 (m : IVec G8 32) : IVec G8 32 := max2 m (dynamicRotate 0 2#32 none m (by decide))
def rot1 (m : IVec G8 32) : IVec G8 32 := max2 m (dynamicRotate 0 1#32 none m (by decide))

/-- Rotating the eight rows by four and taking the maximum of half-words, at one row. -/
theorem rot4_apply (m : IVec G8 32) (r : Fin 256) (A B : ℕ → ℕ) (hA : ∀ s, A s < 256) (hB : ∀ s, B s < 256)
    (h : ∀ s : Fin 8, m (ix2 s r) = W (A s) (B s)) (s : Fin 8) :
    rot4 m (ix2 s r) = W (max (A s) (A ((s + 4) % 8))) (max (B s) (B ((s + 4) % 8))) := by
  refine max2_apply _ _ s r (hA _) (hB _) (hA _) (hB _) (h s) ?_
  rw [← h ⟨(s.val + 4) % 8, by omega⟩]
  pointwise
  congr 2

/-- Rotating the eight rows by two and taking the maximum of half-words, at one row. -/
theorem rot2_apply (m : IVec G8 32) (r : Fin 256) (A B : ℕ → ℕ) (hA : ∀ s, A s < 256) (hB : ∀ s, B s < 256)
    (h : ∀ s : Fin 8, m (ix2 s r) = W (A s) (B s)) (s : Fin 8) :
    rot2 m (ix2 s r) = W (max (A s) (A ((s + 6) % 8))) (max (B s) (B ((s + 6) % 8))) := by
  refine max2_apply _ _ s r (hA _) (hB _) (hA _) (hB _) (h s) ?_
  rw [← h ⟨(s.val + 6) % 8, by omega⟩]
  pointwise
  congr 2

/-- Rotating the eight rows by one and taking the maximum of half-words, at one row. -/
theorem rot1_apply (m : IVec G8 32) (r : Fin 256) (A B : ℕ → ℕ) (hA : ∀ s, A s < 256) (hB : ∀ s, B s < 256)
    (h : ∀ s : Fin 8, m (ix2 s r) = W (A s) (B s)) (s : Fin 8) :
    rot1 m (ix2 s r) = W (max (A s) (A ((s + 7) % 8))) (max (B s) (B ((s + 7) % 8))) := by
  refine max2_apply _ _ s r (hA _) (hB _) (hA _) (hB _) (h s) ?_
  rw [← h ⟨(s.val + 7) % 8, by omega⟩]
  pointwise
  congr 2

/-- The largest of thirty-two numbers. -/
def sup32 (A : ℕ → ℕ) : ℕ := (Finset.range 32).sup A

/-- A bound on the maximum of 32 numbers is a bound on each. -/
theorem sup32_le (A : ℕ → ℕ) (N : ℕ) : sup32 A ≤ N ↔ ∀ j < 32, A j ≤ N := by
  unfold sup32; simp only [Finset.sup_le_iff, Finset.mem_range]

private def m4 (A : ℕ → ℕ) (s : ℕ) : ℕ := max (max (A s) (A (8 + s))) (max (A (16 + s)) (A (24 + s)))
private def m8 (k : ℕ) (A : ℕ → ℕ) (s : ℕ) : ℕ := max (A s) (A ((s + k) % 8))

/-- A bound on the maximum of four rows is a bound on each. -/
private theorem m4_le (A : ℕ → ℕ) (s N : ℕ) : m4 A s ≤ N ↔ A s ≤ N ∧ A (8 + s) ≤ N ∧ A (16 + s) ≤ N ∧ A (24 + s) ≤ N := by
  unfold m4; simp only [max_le_iff]; tauto
/-- A bound on the maximum of a row and a rotated row is a bound on both. -/
private theorem m8_le (k : ℕ) (A : ℕ → ℕ) (s N : ℕ) : m8 k A s ≤ N ↔ A s ≤ N ∧ A ((s + k) % 8) ≤ N := by
  unfold m8; simp only [max_le_iff]

/-- The maximum of four rows followed by three rotations is the maximum of all 32 numbers. -/
private theorem fold_eq (A : ℕ → ℕ) (s : ℕ) (hs : s < 8) : m8 7 (m8 6 (m8 4 (m4 A))) s = sup32 A := by
  have key : ∀ N, m8 7 (m8 6 (m8 4 (m4 A))) s ≤ N ↔ sup32 A ≤ N := fun N => by
    rw [sup32_le]
    have col : ∀ t, m4 A t ≤ N ↔ ∀ k < 4, A (8 * k + t) ≤ N := fun t => by
      rw [m4_le]
      constructor
      · rintro ⟨a, b, c, d⟩ k hk
        interval_cases k
        · simpa using a
        · exact b
        · exact c
        · exact d
      · intro h
        exact ⟨by simpa using h 0 (by omega), h 1 (by omega), h 2 (by omega), h 3 (by omega)⟩
    have all : m8 7 (m8 6 (m8 4 (m4 A))) s ≤ N ↔ ∀ t < 8, m4 A t ≤ N := by
      simp only [m8_le]
      generalize m4 A = C
      constructor
      · rintro h t ht
        interval_cases s <;> simp only [Nat.reduceAdd, Nat.reduceMod] at h <;> (obtain ⟨⟨⟨a, b⟩, c, d⟩, ⟨e, f⟩, g, i⟩ := h) <;> interval_cases t <;> assumption
      · intro h
        exact ⟨⟨⟨h _ (by omega), h _ (by omega)⟩, h _ (by omega), h _ (by omega)⟩, ⟨h _ (by omega), h _ (by omega)⟩, h _ (by omega), h _ (by omega)⟩
    rw [all]
    constructor
    · intro h j hj
      have := (col (j % 8)).1 (h _ (by omega)) (j / 8) (by omega)
      rwa [show 8 * (j / 8) + j % 8 = j by omega] at this
    · intro h t ht
      exact (col t).2 fun k hk => h _ (by omega)
  exact le_antisymm ((key _).2 le_rfl) ((key _).1 le_rfl)

/-- The larger of the thirty-two rows of a group, in every row of the result. -/
def gm (p0 p1 p2 p3 : IVec G8 32) : IVec G8 32 := rot1 (rot2 (rot4 (max2 (max2 p0 p1) (max2 p2 p3))))

/-- The group maximum on packed half-words: each half holds the maximum of its 32 numbers. -/
theorem gm_apply (p0 p1 p2 p3 : IVec G8 32) (r : Fin 256) (A B : ℕ → ℕ) (hA : ∀ s, A s < 256) (hB : ∀ s, B s < 256)
    (h0 : ∀ s : Fin 8, p0 (ix2 s r) = W (A s) (B s)) (h1 : ∀ s : Fin 8, p1 (ix2 s r) = W (A (8 + s)) (B (8 + s)))
    (h2 : ∀ s : Fin 8, p2 (ix2 s r) = W (A (16 + s)) (B (16 + s))) (h3 : ∀ s : Fin 8, p3 (ix2 s r) = W (A (24 + s)) (B (24 + s))) (s : Fin 8) :
    gm p0 p1 p2 p3 (ix2 s r) = W (sup32 A) (sup32 B) := by
  have bm4 : ∀ C : ℕ → ℕ, (∀ s, C s < 256) → ∀ s, m4 C s < 256 := fun C hC s => by
    have := hC s; have := hC (8 + s); have := hC (16 + s); have := hC (24 + s); unfold m4; omega
  have bm8 : ∀ k (C : ℕ → ℕ), (∀ s, C s < 256) → ∀ s, m8 k C s < 256 := fun k C hC s => by
    have := hC s; have := hC ((s + k) % 8); unfold m8; omega
  have e0 : ∀ s : Fin 8, max2 (max2 p0 p1) (max2 p2 p3) (ix2 s r) = W (m4 A s) (m4 B s) := fun s =>
    max2_apply _ _ s r (max_lt (hA _) (hA _)) (max_lt (hB _) (hB _)) (max_lt (hA _) (hA _)) (max_lt (hB _) (hB _))
      (max2_apply _ _ s r (hA _) (hB _) (hA _) (hB _) (h0 s) (h1 s)) (max2_apply _ _ s r (hA _) (hB _) (hA _) (hB _) (h2 s) (h3 s))
  have a4 := bm4 A hA; have b4 := bm4 B hB
  have e1 := rot4_apply _ r _ _ a4 b4 e0
  have e2 := rot2_apply _ r (m8 4 (m4 A)) (m8 4 (m4 B)) (bm8 _ _ a4) (bm8 _ _ b4) e1
  have e3 := rot1_apply _ r (m8 6 (m8 4 (m4 A))) (m8 6 (m8 4 (m4 B))) (bm8 _ _ (bm8 _ _ a4)) (bm8 _ _ (bm8 _ _ b4)) e2 s
  rw [← fold_eq A s s.isLt, ← fold_eq B s s.isLt]
  exact e3

/-- One comparison of the ladder on a tile. -/
def lad (t : FVec Ideal T .f32) (e : IVec T 32) (b : BitVec 32) : IVec T 32 :=
  select (cmpf .oge t (bitcastToFloat .f32 (shli (addi e (broadcast T b)) (broadcast T 23#32)))) (addi e (broadcast T b)) e

/-- The scaled magnitude whose exponent is taken. -/
def mag (v : FVec Ideal T .f32) : FVec Ideal T .f32 := absf (mulf v (broadcast T (Scalar.ofBits .f32 0x3B124925#32)))

/-- The exponent field of each entry, in the exponent's place. -/
def fieldWord (v : FVec Ideal T .f32) : IVec T 32 :=
  shli (minsi (lad (mag v) (lad (mag v) (lad (mag v) (lad (mag v) (lad (mag v) (lad (mag v) (lad (mag v) (lad (mag v) (broadcast T 0#32) 128#32)
    64#32) 32#32) 16#32) 8#32) 4#32) 2#32) 1#32) (broadcast T 252#32)) (broadcast T 23#32)

/-- The fields of two tiles packed in one word, transposed. -/
def packT (va vb : FVec Ideal T .f32) : IVec Tt 32 :=
  transpose Tt [1, 0] (andi (ori (andi (fieldWord va) (broadcast T 4294901760#32)) (shrui (fieldWord vb) (broadcast T 16#32))) (broadcast T 2147450879#32))
    (by decide)

/-- The largest packed word of each group of thirty-two rows. -/
def m0 (w : IVec Tt 32) : IVec G8 32 := gm (extractStridedSlice G8 ![0, 0] w (by decide)) (extractStridedSlice G8 ![8, 0] w (by decide))
  (extractStridedSlice G8 ![16, 0] w (by decide)) (extractStridedSlice G8 ![24, 0] w (by decide))
def m1 (w : IVec Tt 32) : IVec G8 32 := gm (extractStridedSlice G8 ![32, 0] w (by decide)) (extractStridedSlice G8 ![40, 0] w (by decide))
  (extractStridedSlice G8 ![48, 0] w (by decide)) (extractStridedSlice G8 ![56, 0] w (by decide))
def m2 (w : IVec Tt 32) : IVec G8 32 := gm (extractStridedSlice G8 ![64, 0] w (by decide)) (extractStridedSlice G8 ![72, 0] w (by decide))
  (extractStridedSlice G8 ![80, 0] w (by decide)) (extractStridedSlice G8 ![88, 0] w (by decide))
def m3 (w : IVec Tt 32) : IVec G8 32 := gm (extractStridedSlice G8 ![96, 0] w (by decide)) (extractStridedSlice G8 ![104, 0] w (by decide))
  (extractStridedSlice G8 ![112, 0] w (by decide)) (extractStridedSlice G8 ![120, 0] w (by decide))

/-- The scale byte of the upper field and of the lower field. -/
def byteOf (f : IVec G8 32) : IVec G8 32 :=
  select (cmpi .eq f (broadcast G8 0#32)) (broadcast G8 127#32) (addi f (broadcast G8 1#32))
def hiB (m : IVec G8 32) : IVec G8 32 := byteOf (shrui m (broadcast G8 23#32))
def loB (m : IVec G8 32) : IVec G8 32 := byteOf (andi (shrui m (broadcast G8 7#32)) (broadcast G8 255#32))

/-- The inverse scales' word. -/
def invW (m : IVec G8 32) : IVec G8 32 :=
  ori (shli (subi (broadcast G8 254#32) (hiB m)) (broadcast G8 23#32)) (shli (subi (broadcast G8 254#32) (loB m)) (broadcast G8 7#32))

/-- The inverse scales' words, one for each entry of the tile. -/
def big (w : IVec Tt 32) : IVec T 32 :=
  transpose T [1, 0] (concatenate Tt 0 [⟨G8, invW (m0 w)⟩, ⟨G8, invW (m0 w)⟩, ⟨G8, invW (m0 w)⟩, ⟨G8, invW (m0 w)⟩,
    ⟨G8, invW (m1 w)⟩, ⟨G8, invW (m1 w)⟩, ⟨G8, invW (m1 w)⟩, ⟨G8, invW (m1 w)⟩, ⟨G8, invW (m2 w)⟩, ⟨G8, invW (m2 w)⟩, ⟨G8, invW (m2 w)⟩, ⟨G8, invW (m2 w)⟩,
    ⟨G8, invW (m3 w)⟩, ⟨G8, invW (m3 w)⟩, ⟨G8, invW (m3 w)⟩, ⟨G8, invW (m3 w)⟩]
    (show Shape.Concatenates [G8, G8, G8, G8, G8, G8, G8, G8, G8, G8, G8, G8, G8, G8, G8, G8] Tt 0 by decide)) (by decide)

/-- The codes under an inverse scale given by its word. -/
def codes (v : FVec Ideal T .f32) (i : IVec T 32) : FVec Ideal T .fp8e4m3 :=
  truncf .fp8e4m3 (minimumf (broadcast T (Scalar.ofBits .f32 0x43E00000#32)) (maximumf (broadcast T (Scalar.ofBits .f32 0xC3E00000#32))
    (mulf v (bitcastToFloat .f32 i)))) (by decide)

/-- The codes multiplied by their scales. -/
def wide (q : FVec Ideal T .fp8e4m3) (s : IVec T 32) : FVec Ideal T .bf16 :=
  shapeCast T (mulf (extf .bf16 q (by decide)) (truncf .bf16 (bitcastToFloat (F := Ideal) .f32 s) (by decide))) (by decide)

def codesA (va vb : FVec Ideal T .f32) : FVec Ideal T .fp8e4m3 := codes va (andi (big (packT va vb)) (broadcast T 4294901760#32))
def codesB (va vb : FVec Ideal T .f32) : FVec Ideal T .fp8e4m3 := codes vb (shli (big (packT va vb)) (broadcast T 16#32))
def wideA (va vb : FVec Ideal T .f32) : FVec Ideal T .bf16 :=
  wide (codesA va vb) (andi (subi (broadcast T 2130738944#32) (big (packT va vb))) (broadcast T 4294901760#32))
def wideB (va vb : FVec Ideal T .f32) : FVec Ideal T .bf16 :=
  wide (codesB va vb) (shli (subi (broadcast T 2130738944#32) (big (packT va vb))) (broadcast T 16#32))

def row0 (m : IVec G8 32) : IVec G1 32 := extractStridedSlice G1 ![0, 0] m (by decide)

/-- The eight rows of scale bytes of a pair of tiles. -/
def bytes (w : IVec Tt 32) : IVec G8 32 :=
  shapeCast G8 (concatenate G8 0 [⟨G1, row0 (hiB (m0 w))⟩, ⟨G1, row0 (hiB (m1 w))⟩, ⟨G1, row0 (hiB (m2 w))⟩, ⟨G1, row0 (hiB (m3 w))⟩,
    ⟨G1, row0 (loB (m0 w))⟩, ⟨G1, row0 (loB (m1 w))⟩, ⟨G1, row0 (loB (m2 w))⟩, ⟨G1, row0 (loB (m3 w))⟩]
    (show Shape.Concatenates [G1, G1, G1, G1, G1, G1, G1, G1] G8 0 by decide)) (by decide)

end Mx
-- ==== Proof.QuantAt.lean ====
/- The quantiser of a pair of tiles, read at one entry. -/
module

public import proofs.«01_k».proof.Proof.Quant

@[expose] public section
set_option maxRecDepth 16384
noncomputable section
namespace Mx
open Idealize.ShloMosaic

/-- A row of `n` numbers, zero beyond its end. -/
def ext {n : ℕ} (v : Fin n → EReal) (k : ℕ) : EReal := if h : k < n then v ⟨k, h⟩ else 0

/-- The reciprocal of 448 as the program rounds it. -/
def rcp : EReal := Ideal.ofBits .f32 0x3B124925#32

/-- The exponent field of one number's magnitude over 448. -/
def fe (x : EReal) : ℕ := fld (FloatOps.absf (F := Ideal) (φ := .f32) (x * rcp : EReal))

/-- The field of a value fits in a byte. -/
theorem fe_lt (x : EReal) : fe x < 256 := lt_of_le_of_lt (fld_le _) (by norm_num)

/-- The field of a group of thirty-two numbers of a row. -/
def gf {n : ℕ} (v : Fin n → EReal) (g : ℕ) : ℕ := sup32 fun j => fe (ext v (32 * g + j))

/-- The largest field of a group is at most 252. -/
theorem gf_le {n : ℕ} (v : Fin n → EReal) (g : ℕ) : gf v g ≤ 252 := (sup32_le _ _).2 fun _ _ => fld_le _

/-- A code: the number divided by its scale, clipped. -/
def code (x : EReal) (f : ℕ) : EReal := min (Ideal.ofBits .f32 0x43E00000#32) (max (Ideal.ofBits .f32 0xC3E00000#32) (x * pw (127 - sB f)))

/-- A code multiplied by its scale. -/
def wid (x : EReal) (f : ℕ) : EReal := code x f * pw (sB f - 127)

/-- One step of the search for the field, at one element. -/
theorem lad_apply (t : FVec Ideal T .f32) (e : IVec T 32) (b : BitVec 32) (r : Fin 256) (l : Fin 128) :
    lad t e b (ix2 r l) = step (t (ix2 r l)) (e (ix2 r l)) b := by
  unfold lad step
  pointwise

/-- The search, at one element, gives the word of the field of the value. -/
theorem fieldWord_apply (v : FVec Ideal T .f32) (r : Fin 256) (l : Fin 128) : fieldWord v (ix2 r l) = E (fe (v (ix2 r l))) := by
  have h : fieldWord v (ix2 r l) = IntOp.shli .vector (IntOp.minsi (lad8 (FloatOps.absf (F := Ideal) (φ := .f32) (v (ix2 r l) * rcp : EReal))) 252#32) 23#32 := by
    unfold fieldWord lad8 rcp
    pointwise
    simp only [lad_apply]
    unfold mag
    pointwise
  rw [h, min_lad8, shli_E _ _ (lt_of_le_of_lt (fld_le _) (by norm_num))]
  rfl

/-- The packed and transposed fields of two tiles, at one element. -/
theorem packT_apply (va vb : FVec Ideal T .f32) (l : Fin 128) (r : Fin 256) :
    packT va vb (ix2 l r) = W (fe (va (ix2 r l))) (fe (vb (ix2 r l))) := by
  unfold packT
  pointwise
  rw [fieldWord_apply, fieldWord_apply]
  exact pack_W _ _ (fe_lt _) (fe_lt _)

/-- The packed words of a tile pair, as functions of the row's number. -/
theorem packT_ext (va vb : FVec Ideal T .f32) (l : Fin 128) (r : Fin 256) (k : ℕ) (h : l.val = k) :
    packT va vb (ix2 l r) = W (fe (ext (fun l => va (ix2 r l)) k)) (fe (ext (fun l => vb (ix2 r l)) k)) := by
  subst h
  rw [packT_apply]
  unfold ext
  rw [dif_pos l.isLt, dif_pos l.isLt]

/-- The first quarter of the packed fields, at one element. -/
theorem m0_apply (va vb : FVec Ideal T .f32) (r : Fin 256) (s : Fin 8) :
    m0 (packT va vb) (ix2 s r) = W (gf (fun l => va (ix2 r l)) 0) (gf (fun l => vb (ix2 r l)) 0) := by
  unfold m0 gf
  refine gm_apply _ _ _ _ r (fun j => fe (ext (fun l => va (ix2 r l)) (32 * 0 + j))) (fun j => fe (ext (fun l => vb (ix2 r l)) (32 * 0 + j)))
    (fun _ => fe_lt _) (fun _ => fe_lt _) ?_ ?_ ?_ ?_ s <;> intro s <;> pointwise <;> exact packT_ext _ _ _ _ _ (by simp only)
/-- The second quarter of the packed fields, at one element. -/
theorem m1_apply (va vb : FVec Ideal T .f32) (r : Fin 256) (s : Fin 8) :
    m1 (packT va vb) (ix2 s r) = W (gf (fun l => va (ix2 r l)) 1) (gf (fun l => vb (ix2 r l)) 1) := by
  unfold m1 gf
  refine gm_apply _ _ _ _ r (fun j => fe (ext (fun l => va (ix2 r l)) (32 * 1 + j))) (fun j => fe (ext (fun l => vb (ix2 r l)) (32 * 1 + j)))
    (fun _ => fe_lt _) (fun _ => fe_lt _) ?_ ?_ ?_ ?_ s <;> intro s <;> pointwise <;> exact packT_ext _ _ _ _ _ (by simp only <;> omega)
/-- The third quarter of the packed fields, at one element. -/
theorem m2_apply (va vb : FVec Ideal T .f32) (r : Fin 256) (s : Fin 8) :
    m2 (packT va vb) (ix2 s r) = W (gf (fun l => va (ix2 r l)) 2) (gf (fun l => vb (ix2 r l)) 2) := by
  unfold m2 gf
  refine gm_apply _ _ _ _ r (fun j => fe (ext (fun l => va (ix2 r l)) (32 * 2 + j))) (fun j => fe (ext (fun l => vb (ix2 r l)) (32 * 2 + j)))
    (fun _ => fe_lt _) (fun _ => fe_lt _) ?_ ?_ ?_ ?_ s <;> intro s <;> pointwise <;> exact packT_ext _ _ _ _ _ (by simp only <;> omega)
/-- The fourth quarter of the packed fields, at one element. -/
theorem m3_apply (va vb : FVec Ideal T .f32) (r : Fin 256) (s : Fin 8) :
    m3 (packT va vb) (ix2 s r) = W (gf (fun l => va (ix2 r l)) 3) (gf (fun l => vb (ix2 r l)) 3) := by
  unfold m3 gf
  refine gm_apply _ _ _ _ r (fun j => fe (ext (fun l => va (ix2 r l)) (32 * 3 + j))) (fun j => fe (ext (fun l => vb (ix2 r l)) (32 * 3 + j)))
    (fun _ => fe_lt _) (fun _ => fe_lt _) ?_ ?_ ?_ ?_ s <;> intro s <;> pointwise <;> exact packT_ext _ _ _ _ _ (by simp only <;> omega)

/-- The scale byte computed from a field, at one element. -/
theorem byteOf_apply (f : IVec G8 32) (s : Fin 8) (r : Fin 256) (x : ℕ) (hx : x < 256) (h : f (ix2 s r) = BitVec.ofNat 32 x) :
    byteOf f (ix2 s r) = BitVec.ofNat 32 (sB x) := by
  rw [← byte_word x hx]
  unfold byteOf
  pointwise
  rw [h]
  unfold Scalar.select IntOp.cmpi
  by_cases h0 : BitVec.ofNat 32 x = 0#32
  · simp [h0]
  · have h1 : (BitVec.ofNat 32 x == 0#32) = false := by simpa using h0
    simp [h0, h1]

/-- The scale byte of the high half, at one element. -/
theorem hiB_apply (m : IVec G8 32) (s : Fin 8) (r : Fin 256) (x y : ℕ) (hx : x < 256) (hy : y < 256) (h : m (ix2 s r) = W x y) :
    hiB m (ix2 s r) = BitVec.ofNat 32 (sB x) := by
  refine byteOf_apply _ s r x hx ?_
  pointwise
  rw [h, shrui_W x y hx hy]

/-- The scale byte of the low half, at one element. -/
theorem loB_apply (m : IVec G8 32) (s : Fin 8) (r : Fin 256) (x y : ℕ) (hx : x < 256) (hy : y < 256) (h : m (ix2 s r) = W x y) :
    loB m (ix2 s r) = BitVec.ofNat 32 (sB y) := by
  refine byteOf_apply _ s r y hy ?_
  pointwise
  rw [h, andi_shrui_W x y hx hy]

/-- The packed reciprocals of two scales, at one element. -/
theorem invW_apply (m : IVec G8 32) (s : Fin 8) (r : Fin 256) (x y : ℕ) (hx : x ≤ 252) (hy : y ≤ 252) (h : m (ix2 s r) = W x y) :
    invW m (ix2 s r) = W (254 - sB x) (254 - sB y) := by
  have a := hiB_apply m s r x y (by omega) (by omega) h
  have b := loB_apply m s r x y (by omega) (by omega) h
  have := sB_le hx; have := sB_le hy
  unfold invW
  pointwise
  rw [a, b]
  exact inv_word _ _ (by omega) (by omega)

/-- Sixteen pieces of eight rows laid one below the other, four of each, read at a row. -/
theorem cat_apply (p0 p1 p2 p3 : IVec G8 32) (h) (l : Fin 128) (r : Fin 256) (c : ℕ → BitVec 32)
    (h0 : ∀ s, p0 (ix2 s r) = c 0) (h1 : ∀ s, p1 (ix2 s r) = c 1) (h2 : ∀ s, p2 (ix2 s r) = c 2) (h3 : ∀ s, p3 (ix2 s r) = c 3) :
    concatenate Tt 0 [⟨G8, p0⟩, ⟨G8, p0⟩, ⟨G8, p0⟩, ⟨G8, p0⟩, ⟨G8, p1⟩, ⟨G8, p1⟩, ⟨G8, p1⟩, ⟨G8, p1⟩, ⟨G8, p2⟩, ⟨G8, p2⟩, ⟨G8, p2⟩, ⟨G8, p2⟩,
      ⟨G8, p3⟩, ⟨G8, p3⟩, ⟨G8, p3⟩, ⟨G8, p3⟩] h (ix2 l r) = c (l.val / 32) := by
  have e := concatenate_ofFn_apply (t := Tt) (s₁ := G8) 0 (N := 16) ![p0, p0, p0, p0, p1, p1, p1, p1, p2, p2, p2, p2, p3, p3, p3, p3] h rfl 8 rfl (ix2 l r)
    ⟨l.val / 8, by omega⟩ rfl (ix2 ⟨l.val % 8, by omega⟩ r) rfl (fun b hb => by fin_cases b; exact absurd rfl hb; rfl)
  have key : ∀ k (hk : k < 16) s, (![p0, p0, p0, p0, p1, p1, p1, p1, p2, p2, p2, p2, p3, p3, p3, p3] : Fin 16 → IVec G8 32) ⟨k, hk⟩ (ix2 s r) = c (k / 4) := by
    intro k hk s
    interval_cases k <;> first | exact h0 _ | exact h1 _ | exact h2 _ | exact h3 _
  refine e.trans ((key _ _ _).trans ?_)
  rw [show l.val / 8 / 4 = l.val / 32 by omega]

/-- The transpose, at one element. -/
theorem tr_apply {w : ℕ} (x : IVec Tt w) (h) (r : Fin 256) (l : Fin 128) : transpose T [1, 0] x h (ix2 r l) = x (ix2 l r) := by
  pointwise

/-- The inverse scales' word at an entry: that of the entry's group. -/
theorem big_apply (va vb : FVec Ideal T .f32) (r : Fin 256) (l : Fin 128) :
    big (packT va vb) (ix2 r l) = W (254 - sB (gf (fun l => va (ix2 r l)) (l.val / 32))) (254 - sB (gf (fun l => vb (ix2 r l)) (l.val / 32))) := by
  have i0 := fun s => invW_apply _ s r _ _ (gf_le _ _) (gf_le _ _) (m0_apply va vb r s)
  have i1 := fun s => invW_apply _ s r _ _ (gf_le _ _) (gf_le _ _) (m1_apply va vb r s)
  have i2 := fun s => invW_apply _ s r _ _ (gf_le _ _) (gf_le _ _) (m2_apply va vb r s)
  have i3 := fun s => invW_apply _ s r _ _ (gf_le _ _) (gf_le _ _) (m3_apply va vb r s)
  unfold big
  rw [tr_apply]
  exact cat_apply _ _ _ _ _ l r (fun g => W (254 - sB (gf (fun l => va (ix2 r l)) g)) (254 - sB (gf (fun l => vb (ix2 r l)) g))) i0 i1 i2 i3

/-- The quantised codes of a tile, at one element. -/
theorem codes_apply (v : FVec Ideal T .f32) (i : IVec T 32) (r : Fin 256) (l : Fin 128) (f : ℕ) (hf : f ≤ 252) (h : i (ix2 r l) = E (254 - sB f)) :
    codes v i (ix2 r l) = code (v (ix2 r l)) f := by
  have := sB_le hf; have := sB_pos f
  have e : codes v i (ix2 r l) = min (Ideal.ofBits .f32 0x43E00000#32) (max (Ideal.ofBits .f32 0xC3E00000#32) (v (ix2 r l) * Ideal.ofBits .f32 (i (ix2 r l)))) := by
    unfold codes
    pointwise
  rw [e, h, ofBits_E _ (by omega) (by omega)]
  unfold code
  congr 4
  omega

/-- The codes times their scale, at one element. -/
theorem wide_apply (q : FVec Ideal T .fp8e4m3) (s : IVec T 32) (r : Fin 256) (l : Fin 128) (f : ℕ) (hf : f ≤ 252) (h : s (ix2 r l) = E (sB f)) :
    wide q s (ix2 r l) = (q (ix2 r l) * pw (sB f - 127) : EReal) := by
  have := sB_le hf; have := sB_pos f
  have e : wide q s (ix2 r l) = (q (ix2 r l) * Ideal.ofBits .f32 (s (ix2 r l)) : EReal) := by
    unfold wide
    pointwise
  rw [e, h, ofBits_E _ (by omega) (by omega)]

/-- The codes of the first tile of a pair: each entry divided by its group's scale and clipped. -/
theorem codesA_apply (va vb : FVec Ideal T .f32) (r : Fin 256) (l : Fin 128) :
    codesA va vb (ix2 r l) = code (va (ix2 r l)) (gf (fun l => va (ix2 r l)) (l.val / 32)) := by
  have ha := gf_le (fun l => va (ix2 r l)) (l.val / 32); have hb := gf_le (fun l => vb (ix2 r l)) (l.val / 32)
  refine codes_apply _ _ r l _ ha ?_
  show IntOp.andi (big (packT va vb) (ix2 r l)) 4294901760#32 = _
  rw [big_apply]
  exact hi_W _ _ (by omega) (by omega)
/-- The codes of the second tile of a pair. -/
theorem codesB_apply (va vb : FVec Ideal T .f32) (r : Fin 256) (l : Fin 128) :
    codesB va vb (ix2 r l) = code (vb (ix2 r l)) (gf (fun l => vb (ix2 r l)) (l.val / 32)) := by
  have ha := gf_le (fun l => va (ix2 r l)) (l.val / 32); have hb := gf_le (fun l => vb (ix2 r l)) (l.val / 32)
  refine codes_apply _ _ r l _ hb ?_
  show IntOp.shli .vector (big (packT va vb) (ix2 r l)) 16#32 = _
  rw [big_apply]
  exact lo_W _ _ (by omega) (by omega)

/-- The scales of two tiles, packed in one word. -/
theorem scale_W (va vb : FVec Ideal T .f32) (r : Fin 256) (l : Fin 128) :
    subi (broadcast T 2130738944#32) (big (packT va vb)) (ix2 r l)
      = W (sB (gf (fun l => va (ix2 r l)) (l.val / 32))) (sB (gf (fun l => vb (ix2 r l)) (l.val / 32))) := by
  have ha := gf_le (fun l => va (ix2 r l)) (l.val / 32); have hb := gf_le (fun l => vb (ix2 r l)) (l.val / 32)
  have := sB_le ha; have := sB_le hb
  show IntOp.subi 2130738944#32 (big (packT va vb) (ix2 r l)) = _
  rw [big_apply, sum_sub_W _ _ (by omega) (by omega)]

/-- The codes of the first tile multiplied by their scales. -/
theorem wideA_apply (va vb : FVec Ideal T .f32) (r : Fin 256) (l : Fin 128) :
    wideA va vb (ix2 r l) = wid (va (ix2 r l)) (gf (fun l => va (ix2 r l)) (l.val / 32)) := by
  have ha := gf_le (fun l => va (ix2 r l)) (l.val / 32); have hb := gf_le (fun l => vb (ix2 r l)) (l.val / 32)
  have := sB_le ha; have := sB_le hb
  unfold wideA wid
  rw [wide_apply _ _ r l _ ha, codesA_apply]
  show IntOp.andi (subi (broadcast T 2130738944#32) (big (packT va vb)) (ix2 r l)) 4294901760#32 = _
  rw [scale_W]
  exact hi_W _ _ (by omega) (by omega)
/-- The codes of the second tile multiplied by their scales. -/
theorem wideB_apply (va vb : FVec Ideal T .f32) (r : Fin 256) (l : Fin 128) :
    wideB va vb (ix2 r l) = wid (vb (ix2 r l)) (gf (fun l => vb (ix2 r l)) (l.val / 32)) := by
  have ha := gf_le (fun l => va (ix2 r l)) (l.val / 32); have hb := gf_le (fun l => vb (ix2 r l)) (l.val / 32)
  have := sB_le ha; have := sB_le hb
  unfold wideB wid
  rw [wide_apply _ _ r l _ hb, codesB_apply]
  show IntOp.shli .vector (subi (broadcast T 2130738944#32) (big (packT va vb)) (ix2 r l)) 16#32 = _
  rw [scale_W]
  exact lo_W _ _ (by omega) (by omega)

/-- The concatenation of eight rows, at one element. -/
theorem cat8_apply (p : Fin 8 → IVec G1 32) (h) (k : Fin 8) (r : Fin 256) :
    concatenate G8 0 [⟨G1, p 0⟩, ⟨G1, p 1⟩, ⟨G1, p 2⟩, ⟨G1, p 3⟩, ⟨G1, p 4⟩, ⟨G1, p 5⟩, ⟨G1, p 6⟩, ⟨G1, p 7⟩] h (ix2 k r) = p k (ix2 0 r) :=
  concatenate_ofFn_apply (t := G8) (s₁ := G1) 0 (N := 8) p h rfl 1 rfl (ix2 k r)
    k (Nat.div_one _) (ix2 0 r) (Nat.mod_one _).symm (fun b hb => by fin_cases b; exact absurd rfl hb; rfl)

/-- The first row of a block of eight, at one element. -/
theorem row0_apply (m : IVec G8 32) (r : Fin 256) : row0 m (ix2 0 r) = m (ix2 0 r) := by
  unfold row0
  pointwise

/-- The scale bytes of a pair of tiles: the first four rows hold those of the first tile's groups, the others those of the second's. -/
theorem bytes_apply (va vb : FVec Ideal T .f32) (k : Fin 8) (r : Fin 256) :
    bytes (packT va vb) (ix2 k r) = BitVec.ofNat 32 (if k.val < 4 then sB (gf (fun l => va (ix2 r l)) k) else sB (gf (fun l => vb (ix2 r l)) (k - 4))) := by
  have lt : ∀ {n} (v : Fin n → EReal) g, gf v g < 256 := fun v g => lt_of_le_of_lt (gf_le v g) (by norm_num)
  have e : bytes (packT va vb) (ix2 k r) = concatenate G8 0 [⟨G1, row0 (hiB (m0 (packT va vb)))⟩, ⟨G1, row0 (hiB (m1 (packT va vb)))⟩, ⟨G1, row0 (hiB (m2 (packT va vb)))⟩, ⟨G1, row0 (hiB (m3 (packT va vb)))⟩,
    ⟨G1, row0 (loB (m0 (packT va vb)))⟩, ⟨G1, row0 (loB (m1 (packT va vb)))⟩, ⟨G1, row0 (loB (m2 (packT va vb)))⟩, ⟨G1, row0 (loB (m3 (packT va vb)))⟩]
    (show Shape.Concatenates [G1, G1, G1, G1, G1, G1, G1, G1] G8 0 by decide) (ix2 k r) := by
    unfold bytes
    exact congrFun (shapeCast_self _ _) _
  rw [e]
  refine (cat8_apply ![row0 (hiB (m0 (packT va vb))), row0 (hiB (m1 (packT va vb))), row0 (hiB (m2 (packT va vb))), row0 (hiB (m3 (packT va vb))),
    row0 (loB (m0 (packT va vb))), row0 (loB (m1 (packT va vb))), row0 (loB (m2 (packT va vb))), row0 (loB (m3 (packT va vb)))] _ k r).trans ?_
  have n0 := m0_apply va vb r 0; have n1 := m1_apply va vb r 0; have n2 := m2_apply va vb r 0; have n3 := m3_apply va vb r 0
  fin_cases k
  · exact (row0_apply _ _).trans (hiB_apply _ _ _ _ _ (lt _ _) (lt _ _) n0)
  · exact (row0_apply _ _).trans (hiB_apply _ _ _ _ _ (lt _ _) (lt _ _) n1)
  · exact (row0_apply _ _).trans (hiB_apply _ _ _ _ _ (lt _ _) (lt _ _) n2)
  · exact (row0_apply _ _).trans (hiB_apply _ _ _ _ _ (lt _ _) (lt _ _) n3)
  · exact (row0_apply _ _).trans (loB_apply _ _ _ _ _ (lt _ _) (lt _ _) n0)
  · exact (row0_apply _ _).trans (loB_apply _ _ _ _ _ (lt _ _) (lt _ _) n1)
  · exact (row0_apply _ _).trans (loB_apply _ _ _ _ _ (lt _ _) (lt _ _) n2)
  · exact (row0_apply _ _).trans (loB_apply _ _ _ _ _ (lt _ _) (lt _ _) n3)

end Mx
-- ==== Proof.KBody.lean ====
/- What one grid point's body leaves in each buffer, as lists of stores over what it reads. -/
module

public import proofs.«01_k».proof.Proof.QuantAt
public import proofs.«01_k».proof.Proof.Gen.KernelIdeal.Frame

@[expose] public section
set_option maxRecDepth 16384
noncomputable section
namespace Mx
open Idealize.ShloMosaic Cert.KernelIdeal Cert.KernelIdeal.Gen

/-- `n` stores of tiles of `w` columns laid side by side from column 0, last first. -/
def colL {e : EltTy} (R C w : ℕ) : (n : ℕ) → (h : w * n ≤ C) → (f : (k : ℕ) → k < n → (⟨2, ![R, w]⟩ : Shape).Idx → Elt Ideal e) →
    List (View.Piece (Elt Ideal) ⟨2, ![R, C]⟩ e)
  | 0, _, _ => []
  | n + 1, h, f => ⟨Rect.unit (s := ⟨2, ![R, C]⟩) ![0, w * n] ![R, w] (fun a => by
      fin_cases a
      · exact (Nat.zero_add R).le
      · exact h), f n (Nat.lt_succ_self n)⟩ :: colL R C w n (le_trans (Nat.mul_le_mul_left w (Nat.le_succ n)) h) (fun k hk => f k (Nat.lt_succ_of_lt hk))

/-- `n` stores of tiles of `w` rows laid one below the other from row 0, last first. -/
def rowL {e : EltTy} (R C w : ℕ) : (n : ℕ) → (h : w * n ≤ R) → (f : (k : ℕ) → k < n → (⟨2, ![w, C]⟩ : Shape).Idx → Elt Ideal e) →
    List (View.Piece (Elt Ideal) ⟨2, ![R, C]⟩ e)
  | 0, _, _ => []
  | n + 1, h, f => ⟨Rect.unit (s := ⟨2, ![R, C]⟩) ![w * n, 0] ![w, C] (fun a => by
      fin_cases a
      · exact h
      · exact (Nat.zero_add C).le), f n (Nat.lt_succ_self n)⟩ :: rowL R C w n (le_trans (Nat.mul_le_mul_left w (Nat.le_succ n)) h) (fun k hk => f k (Nat.lt_succ_of_lt hk))

/-- The rectangle of `w` columns from `o`. -/
theorem cols_inb (R C o w : ℕ) (h : o + w ≤ C) : ∀ a : Fin (⟨2, ![R, C]⟩ : Shape).rank, (![0, o] : Fin 2 → ℕ) a + (![R, w] : Fin 2 → ℕ) a ≤ (⟨2, ![R, C]⟩ : Shape).size a := fun a => by
  fin_cases a
  · exact (Nat.zero_add R).le
  · exact h
def colR (R C o w : ℕ) (h : o + w ≤ C) : LoadRect ⟨2, ![R, C]⟩ := (Rect.unit (s := ⟨2, ![R, C]⟩) ![0, o] ![R, w] (cols_inb R C o w h)).toLoadRect
/-- The first `w` rows of an array of `R` rows lie inside it. -/
theorem rows_inb (R C w : ℕ) (h : w ≤ R) : ∀ a : Fin (⟨2, ![R, C]⟩ : Shape).rank, (![0, 0] : Fin 2 → ℕ) a + (![w, C] : Fin 2 → ℕ) a ≤ (⟨2, ![R, C]⟩ : Shape).size a := fun a => by
  fin_cases a
  · exact (Nat.zero_add w).trans_le h
  · exact (Nat.zero_add C).le
def rowR (R C w : ℕ) (h : w ≤ R) : LoadRect ⟨2, ![R, C]⟩ := (Rect.unit (s := ⟨2, ![R, C]⟩) ![0, 0] ![w, C] (rows_inb R C w h)).toLoadRect

/-- A product of 1280 terms with the bias row added. -/
def mm (a : FVec Ideal S256x1280 .bf16) (w : FVec Ideal S1280x256 .bf16) (b : FVec Ideal S1x256 .f32) : FVec Ideal S256x256 .f32 :=
  addf (matmul dot_S256x1280_S1280x256_S256x256_1_0_0_1_n_n none a w (constant S256x256 .f32 0x00000000#32))
    (broadcastTo S256x256 (shapeCast S1x256 b shapeCasts_S1x256_S1x256) broadcasts_S1x256_S256x256)
/-- A product of 5120 terms with the bias row added. -/
def mm2 (a : FVec Ideal S256x5120 .bf16) (w : FVec Ideal S5120x256 .bf16) (b : FVec Ideal S1x256 .f32) : FVec Ideal S256x256 .f32 :=
  addf (matmul dot_S256x5120_S5120x256_S256x256_1_0_0_1_n_n none a w (constant S256x256 .f32 0x00000000#32))
    (broadcastTo S256x256 (shapeCast S1x256 b shapeCasts_S1x256_S1x256) broadcasts_S1x256_S256x256)
/-- The activation of a tile. -/
def ge (v : FVec Ideal S256x256 .f32) : FVec Ideal S256x256 .f32 :=
  mulf (mulf (broadcast S256x256 (Scalar.ofBits .f32 0x3F000000#32)) v) (addf (broadcast S256x256 (Scalar.ofBits .f32 0x3F800000#32)) (erf (mulf v (broadcast S256x256 (Scalar.ofBits .f32 0x3F3504F3#32)))))

/-- What the body reads at a point: its inputs' tiles, the decoded weights' tiles, and where its scratch lies. -/
structure Ins where
  aw : FVec Ideal S256x1280 .bf16
  x : (k : ℕ) → k < 5 → FVec Ideal S256x256 .bf16
  wo : (k : ℕ) → k < 5 → FVec Ideal S1280x256 .bf16
  bo : (k : ℕ) → k < 5 → FVec Ideal S1x256 .f32
  g : FVec Ideal S1x1280 .f32
  b : FVec Ideal S1x1280 .f32
  w1 : (k : ℕ) → k < 20 → FVec Ideal S1280x256 .bf16
  b1 : (k : ℕ) → k < 20 → FVec Ideal S1x256 .f32
  w2 : (k : ℕ) → k < 5 → FVec Ideal S5120x256 .bf16
  b2 : (k : ℕ) → k < 5 → FVec Ideal S1x256 .f32
  m3 : Memref sig .tc .vmem S256x1280 .bf16
  m4 : Memref sig .tc .vmem S256x5120 .bf16
  m5 : Memref sig .tc .vmem S256x1280 .f32
  m6 : Memref sig .tc .vmem S128x256 .i32
  m7 : Memref sig .tc .vmem S256x256 .i32

namespace Ins
variable (I : Ins)

def h1L : List (View.Piece (Elt Ideal) S256x1280 .f32) :=
  colL 256 1280 256 5 (by decide) fun k hk => (shapeCast S256x256 (addf (extf .f32 (I.x k hk) bitsLt_bf16_f32) (mm I.aw (I.wo k hk) (I.bo k hk)) : FVec Ideal S256x256 .f32) shapeCasts_S256x256_S256x256 : FVec Ideal S256x256 .f32)
def h1 (k : ℕ) (hk : k < 5) : FVec Ideal S256x256 .f32 := I.m5.view.readCov I.h1L (colR 256 1280 (256 * k) 256 (by omega))
def ln : FVec Ideal S256x1280 .f32 := k0_pay28 (F := Ideal) (I.m5.view.readCov I.h1L (colR 256 1280 0 1280 (by decide))) I.g I.b
/-- A band of 128 lanes lies inside the 1280 lanes. -/
theorem sl_ln (o : ℕ) (h : o + 128 ≤ 1280) : S256x1280.Slices ![0, o] T := ⟨rfl, fun a => by fin_cases a <;> [exact (by decide : 0 + 256 ≤ 256); exact h]⟩
def lnT (k : ℕ) (hk : k < 10) : FVec Ideal T .f32 := extractStridedSlice T ![0, 128 * k] I.ln (sl_ln _ (by omega))
def aL : List (View.Piece (Elt Ideal) S256x1280 .bf16) :=
  colL 256 1280 128 10 (by decide) fun k hk =>
    if k % 2 = 0 then wideA (I.lnT (2 * (k / 2)) (by omega)) (I.lnT (2 * (k / 2) + 1) (by omega)) else wideB (I.lnT (2 * (k / 2)) (by omega)) (I.lnT (2 * (k / 2) + 1) (by omega))
def c2L : List (View.Piece (Elt Ideal) S256x1280 .fp8e4m3) :=
  colL 256 1280 128 10 (by decide) fun k hk =>
    if k % 2 = 0 then codesA (I.lnT (2 * (k / 2)) (by omega)) (I.lnT (2 * (k / 2) + 1) (by omega)) else codesB (I.lnT (2 * (k / 2)) (by omega)) (I.lnT (2 * (k / 2) + 1) (by omega))
def by2L : List (View.Piece (Elt Ideal) S128x256 .i32) :=
  rowL 128 256 8 5 (by decide) fun k hk => bytes (packT (I.lnT (2 * k) (by omega)) (I.lnT (2 * k + 1) (by omega)))
def s2 : IVec S256x40 8 := trunci 8 (transpose S256x40 [1, 0] (I.m6.view.readCov I.by2L (rowR 128 256 40 (by decide))) transposes_S40x256_p1_0_S256x40) natLt_8_32
def f (k : ℕ) (hk : k < 20) : FVec Ideal S256x256 .f32 :=
  ge (mm (I.m3.view.readCov I.aL (colR 256 1280 0 1280 (by decide))) (I.w1 k hk) (I.b1 k hk))
def fA (k : ℕ) (hk : k < 20) : FVec Ideal T .f32 := extractStridedSlice T ![0, 0] (I.f k hk) slices_S256x256_o0_0_S256x128
def fB (k : ℕ) (hk : k < 20) : FVec Ideal T .f32 := extractStridedSlice T ![0, 128] (I.f k hk) slices_S256x256_o0_128_S256x128
def actL : List (View.Piece (Elt Ideal) S256x5120 .bf16) :=
  colL 256 5120 128 40 (by decide) fun k hk =>
    if k % 2 = 0 then wideA (I.fA (k / 2) (by omega)) (I.fB (k / 2) (by omega)) else wideB (I.fA (k / 2) (by omega)) (I.fB (k / 2) (by omega))
def caL : List (View.Piece (Elt Ideal) S256x5120 .fp8e4m3) :=
  colL 256 5120 128 40 (by decide) fun k hk =>
    if k % 2 = 0 then codesA (I.fA (k / 2) (by omega)) (I.fB (k / 2) (by omega)) else codesB (I.fA (k / 2) (by omega)) (I.fB (k / 2) (by omega))
def byaL : List (View.Piece (Elt Ideal) S256x256 .i32) :=
  rowL 256 256 8 20 (by decide) fun k hk => bytes (packT (I.fA k hk) (I.fB k hk))
def sa : IVec S256x160 8 := trunci 8 (transpose S256x160 [1, 0] (I.m7.view.readCov I.byaL (rowR 256 256 160 (by decide))) transposes_S160x256_p1_0_S256x160) natLt_8_32
def h2 (k : ℕ) (hk : k < 5) : FVec Ideal S256x256 .f32 :=
  addf (I.h1 k hk) (mm2 (I.m4.view.readCov I.actL (colR 256 5120 0 5120 (by decide))) (I.w2 k hk) (I.b2 k hk))
def h2L : List (View.Piece (Elt Ideal) S256x1280 .f32) := colL 256 1280 256 5 (by decide) I.h2
def h2bL : List (View.Piece (Elt Ideal) S256x1280 .bf16) :=
  colL 256 1280 256 5 (by decide) fun k hk => (truncf .bf16 (I.h2 k hk) bitsLt_bf16_f32 : FVec Ideal S256x256 .bf16)
end Ins
end Mx
-- ==== Proof.Lists.lean ====
/- Reading what side-by-side stores leave. -/
module

public import proofs.«01_k».proof.Proof.KBody

@[expose] public section
set_option maxRecDepth 16384
noncomputable section
namespace Mx
open Idealize.ShloMosaic Cert.KernelIdeal Cert.KernelIdeal.Gen

/-- Tiles stored side by side: the entry at column `c` is the one of tile `c / w`. -/
theorem colL_canon {e : EltTy} (R C w : ℕ) (hw : 0 < w) : ∀ (n : ℕ) (h : w * n ≤ C) (f : (k : ℕ) → k < n → (⟨2, ![R, w]⟩ : Shape).Idx → Elt Ideal e)
    (r : Fin R) (c : Fin C) (k : ℕ) (hk : k < n) (j : Fin w) (_ : c.val = w * k + j.val),
    View.canon (colL R C w n h f) (ix2 r c) = f k hk (ix2 r j)
  | 0, _, _, _, _, _, hk, _, _ => absurd hk (Nat.not_lt_zero _)
  | n + 1, h, f, r, c, k, hk, j, hc => by
    unfold colL
    by_cases hkn : k = n
    · subst hkn
      rw [show (ix2 r c : (⟨2, ![R, C]⟩ : Shape).Idx) = (Rect.unit (s := ⟨2, ![R, C]⟩) ![0, w * k] ![R, w] (fun a => by
        fin_cases a
        · exact (Nat.zero_add R).le
        · exact h)).emb (ix2 r j) from ?_, View.canon_cons_emb]
      funext a
      refine Fin.ext ?_
      rw [Rect.emb_apply]
      fin_cases a
      · exact (show r.val = 0 + 1 * r.val by omega)
      · exact (show c.val = w * k + 1 * j.val by omega)
    · rw [View.canon_cons_of_not_mem]
      · exact colL_canon R C w hw n _ _ r c k (by omega) j hc
      · rw [Rect.mem_set_unit]
        intro hm
        have h1 : w * n ≤ c.val := (hm 1).1
        have h2 : w * (k + 1) ≤ w * n := Nat.mul_le_mul_left w (by omega)
        have := j.isLt
        rw [Nat.mul_succ] at h2
        omega

/-- Tiles stored one below the other: the entry at row `r` is the one of tile `r / w`. -/
theorem rowL_canon {e : EltTy} (R C w : ℕ) (hw : 0 < w) : ∀ (n : ℕ) (h : w * n ≤ R) (f : (k : ℕ) → k < n → (⟨2, ![w, C]⟩ : Shape).Idx → Elt Ideal e)
    (r : Fin R) (c : Fin C) (k : ℕ) (hk : k < n) (j : Fin w) (_ : r.val = w * k + j.val),
    View.canon (rowL R C w n h f) (ix2 r c) = f k hk (ix2 j c)
  | 0, _, _, _, _, _, hk, _, _ => absurd hk (Nat.not_lt_zero _)
  | n + 1, h, f, r, c, k, hk, j, hc => by
    unfold rowL
    by_cases hkn : k = n
    · subst hkn
      rw [show (ix2 r c : (⟨2, ![R, C]⟩ : Shape).Idx) = (Rect.unit (s := ⟨2, ![R, C]⟩) ![w * k, 0] ![w, C] (fun a => by
        fin_cases a
        · exact h
        · exact (Nat.zero_add C).le)).emb (ix2 j c) from ?_, View.canon_cons_emb]
      funext a
      refine Fin.ext ?_
      rw [Rect.emb_apply]
      fin_cases a
      · exact (show r.val = w * k + 1 * j.val by omega)
      · exact (show c.val = 0 + 1 * c.val by omega)
    · rw [View.canon_cons_of_not_mem]
      · exact rowL_canon R C w hw n _ _ r c k (by omega) j hc
      · rw [Rect.mem_set_unit]
        intro hm
        have h1 : w * n ≤ r.val := (hm 0).1
        have h2 : w * (k + 1) ≤ w * n := Nat.mul_le_mul_left w (by omega)
        have := j.isLt
        rw [Nat.mul_succ] at h2
        omega

/-- The index of a column tile's entry in the whole array. -/
theorem colR_idx (R C o w : ℕ) (h : o + w ≤ C) (r : Fin R) (j : Fin w) :
    (colR R C o w h).idx (ix2 r j) = ix2 r ⟨o + j.val, by omega⟩ := by
  funext a
  refine Fin.ext ?_
  fin_cases a
  · exact (show 0 + 1 * r.val = r.val by omega)
  · exact (show o + 1 * j.val = o + j.val by omega)

/-- The index of a row tile's entry in the whole array. -/
theorem rowR_idx (R C w : ℕ) (h : w ≤ R) (r : Fin w) (j : Fin C) :
    (rowR R C w h).idx (ix2 r j) = ix2 ⟨r.val, by omega⟩ j := by
  funext a
  refine Fin.ext ?_
  fin_cases a
  · exact (show 0 + 1 * r.val = r.val by omega)
  · exact (show 0 + 1 * j.val = j.val by omega)

/-- A column tile read back from stores. -/
theorem readCov_col {e : EltTy} {R C : ℕ} (v : View sig .tc .vmem ⟨2, ![R, C]⟩ e) (L : List (View.Piece (Elt Ideal) ⟨2, ![R, C]⟩ e)) (o w : ℕ) (h : o + w ≤ C) (r : Fin R) (j : Fin w) :
    v.readCov L (colR R C o w h) (ix2 r j) = View.canon L (ix2 r ⟨o + j.val, by omega⟩) := by
  rw [View.readCov_eq_canon']
  exact congrArg (View.canon L) (colR_idx R C o w h r j)

/-- A row tile read back from stores. -/
theorem readCov_row {e : EltTy} {R C : ℕ} (v : View sig .tc .vmem ⟨2, ![R, C]⟩ e) (L : List (View.Piece (Elt Ideal) ⟨2, ![R, C]⟩ e)) (w : ℕ) (h : w ≤ R) (r : Fin w) (j : Fin C) :
    v.readCov L (rowR R C w h) (ix2 r j) = View.canon L (ix2 ⟨r.val, by omega⟩ j) := by
  rw [View.readCov_eq_canon']
  exact congrArg (View.canon L) (rowR_idx R C w h r j)

/-- A column tile read from a whole buffer. -/
theorem readAt_col {e : EltTy} {R C : ℕ} (m : Memref sig .tc .vmem ⟨2, ![R, C]⟩ e) (hm : m.IsWhole) (x : (⟨2, ![R, C]⟩ : Shape).Idx → Elt Ideal e) (o w : ℕ) (h : o + w ≤ C) (r : Fin R) (j : Fin w) :
    m.view.readAt (Elt Ideal) (colR R C o w h) (hm.unread x) (ix2 r j) = x (ix2 r ⟨o + j.val, by omega⟩) := by
  rw [← colR_idx R C o w h r j]
  exact congrFun (hm.read_unread x) _
end Mx
-- ==== Proof.Spec.lean ====
/- What the program computes, row by row, over the extended reals. -/
module

public import proofs.«01_k».proof.Proof.QuantAt

@[expose] public section
noncomputable section
namespace Mx
open Idealize.ShloMosaic

/-- The exponent field of the group `g` of 32 numbers of a row. -/
def gfN (v : ℕ → EReal) (g : ℕ) : ℕ := sup32 fun j => fe (v (32 * g + j))

/-- The largest field of a group is at most 252. -/
theorem gfN_le (v : ℕ → EReal) (g : ℕ) : gfN v g ≤ 252 := (sup32_le _ _).2 fun _ _ => fld_le _

/-- The activation. -/
def gelu (x : EReal) : EReal := Ideal.ofBits .f32 0x3F000000#32 * x * (Ideal.ofBits .f32 0x3F800000#32 + Ideal.erf (x * Ideal.ofBits .f32 0x3F3504F3#32))

/-- Inputs and dense weights, each read at a row and a column. -/
structure Dat where
  aw : ℕ → ℕ → EReal
  x : ℕ → ℕ → EReal
  wo : ℕ → ℕ → EReal
  bo : ℕ → EReal
  g : ℕ → EReal
  b : ℕ → EReal
  w1 : ℕ → ℕ → EReal
  b1 : ℕ → EReal
  w2 : ℕ → ℕ → EReal
  b2 : ℕ → EReal

namespace Dat
variable (D : Dat)
/-- The first residual stream. -/
def h1 (r c : ℕ) : EReal := D.x r c + ((∑ k : Fin 1280, D.aw r k.val * D.wo k.val c) + D.bo c)
/-- Its mean over a row. -/
def mu (r : ℕ) : EReal := Ideal.div (∑ c : Fin 1280, D.h1 r c.val) (Ideal.ofBits .f32 0x44A00000#32)
/-- The deviation from the mean. -/
def dv (r c : ℕ) : EReal := D.h1 r c - D.mu r
/-- The root of the variance and the guard added to it. -/
def sd (r : ℕ) : EReal := Ideal.sqrt (Ideal.div (∑ c : Fin 1280, D.dv r c.val * D.dv r c.val) (Ideal.ofBits .f32 0x44A00000#32) + Ideal.ofBits .f32 0x3727C5AC#32)
/-- The normalised row. -/
def ln (r c : ℕ) : EReal := Ideal.div (D.dv r c) (D.sd r) * D.g c + D.b c
/-- Its codes times their scales. -/
def lw (r c : ℕ) : EReal := wid (D.ln r c) (gfN (D.ln r) (c / 32))
/-- The activation's argument. -/
def pre (r c : ℕ) : EReal := (∑ k : Fin 1280, D.lw r k.val * D.w1 k.val c) + D.b1 c
/-- The activation. -/
def f (r c : ℕ) : EReal := gelu (D.pre r c)
/-- Its codes times their scales. -/
def fw (r c : ℕ) : EReal := wid (D.f r c) (gfN (D.f r) (c / 32))
/-- The second residual stream. -/
def h2 (r c : ℕ) : EReal := D.h1 r c + ((∑ k : Fin 5120, D.fw r k.val * D.w2 k.val c) + D.b2 c)
/-- The codes of the normalised row. -/
def c2 (r c : ℕ) : EReal := code (D.ln r c) (gfN (D.ln r) (c / 32))
/-- The codes of the activation. -/
def ca (r c : ℕ) : EReal := code (D.f r c) (gfN (D.f r) (c / 32))
/-- The scale bytes of the normalised row. -/
def s2 (r g : ℕ) : BitVec 8 := BitVec.ofNat 8 (sB (gfN (D.ln r) g))
/-- The scale bytes of the activation. -/
def sa (r g : ℕ) : BitVec 8 := BitVec.ofNat 8 (sB (gfN (D.f r) g))
end Dat
end Mx
-- ==== Proof.Stage.lean ====
/- What the body stores at a point, in terms of the rows it reads. -/
module

public import proofs.«01_k».proof.Proof.Lists
public import proofs.«01_k».proof.Proof.Spec
import Idealize.ShloMosaic.Lib.Pointwise

@[expose] public section
set_option maxRecDepth 16384
noncomputable section
namespace Mx
open Idealize.ShloMosaic Cert.KernelIdeal Cert.KernelIdeal.Gen

/-- The body reads, at every entry, what `D` says of it. -/
structure Ins.Ok (I : Ins) (D : Dat) : Prop where
  aw : ∀ (r : Fin 256) (k : Fin 1280), I.aw (ix2 r k) = D.aw r.val k.val
  x : ∀ (k : ℕ) (hk : k < 5) (r j : Fin 256), I.x k hk (ix2 r j) = D.x r.val (256 * k + j.val)
  wo : ∀ (k : ℕ) (hk : k < 5) (i : Fin 1280) (j : Fin 256), I.wo k hk (ix2 i j) = D.wo i.val (256 * k + j.val)
  bo : ∀ (k : ℕ) (hk : k < 5) (j : Fin 256), I.bo k hk (ix2 0 j) = D.bo (256 * k + j.val)
  g : ∀ c : Fin 1280, I.g (ix2 0 c) = D.g c.val
  b : ∀ c : Fin 1280, I.b (ix2 0 c) = D.b c.val
  w1 : ∀ (k : ℕ) (hk : k < 20) (i : Fin 1280) (j : Fin 256), I.w1 k hk (ix2 i j) = D.w1 i.val (256 * k + j.val)
  b1 : ∀ (k : ℕ) (hk : k < 20) (j : Fin 256), I.b1 k hk (ix2 0 j) = D.b1 (256 * k + j.val)
  w2 : ∀ (k : ℕ) (hk : k < 5) (i : Fin 5120) (j : Fin 256), I.w2 k hk (ix2 i j) = D.w2 i.val (256 * k + j.val)
  b2 : ∀ (k : ℕ) (hk : k < 5) (j : Fin 256), I.b2 k hk (ix2 0 j) = D.b2 (256 * k + j.val)

/-- The product of 1280 terms at an entry. -/
theorem mm_apply (a : FVec Ideal S256x1280 .bf16) (w : FVec Ideal S1280x256 .bf16) (b : FVec Ideal S1x256 .f32) (r j : Fin 256) :
    mm a w b (ix2 r j) = (∑ k : Fin 1280, a (ix2 r k) * w (ix2 k j)) + b (ix2 0 j) := by
  pointwise [mm]

/-- The product of 5120 terms at an entry. -/
theorem mm2_apply (a : FVec Ideal S256x5120 .bf16) (w : FVec Ideal S5120x256 .bf16) (b : FVec Ideal S1x256 .f32) (r j : Fin 256) :
    mm2 a w b (ix2 r j) = (∑ k : Fin 5120, a (ix2 r k) * w (ix2 k j)) + b (ix2 0 j) := by
  pointwise [mm2]

/-- The activation at an entry. -/
theorem ge_apply (v : FVec Ideal S256x256 .f32) (r j : Fin 256) : ge v (ix2 r j) = gelu (v (ix2 r j)) := by
  pointwise [ge, gelu]
  rfl

/-- The normalisation at an entry, in the order the body computes it. -/
theorem pay28_apply (X : FVec Ideal S256x1280 .f32) (g b : FVec Ideal S1x1280 .f32) (r : Fin 256) (c : Fin 1280) :
    k0_pay28 (F := Ideal) X g b (ix2 r c) =
      (X (ix2 r c) - Ideal.div (∑ x, X (ix2 r x)) (Ideal.ofBits FTy.f32 0x44A00000#32)) *
          Ideal.div 1
            (Ideal.sqrt
              (Ideal.div
                  (∑ x,
                    (X (ix2 r x) - Ideal.div (∑ x, X (ix2 r x)) (Ideal.ofBits FTy.f32 0x44A00000#32)) *
                      (X (ix2 r x) - Ideal.div (∑ x, X (ix2 r x)) (Ideal.ofBits FTy.f32 0x44A00000#32)))
                  (Ideal.ofBits FTy.f32 0x44A00000#32) +
                Ideal.ofBits FTy.f32 0x3727C5AC#32)) *
        g (ix2 0 c) +
      b (ix2 0 c) := by
  pointwise [k0_pay28]

/-- The number 1280. -/
theorem n1280_eq : Ideal.ofBits FTy.f32 0x44A00000#32 = ((1280 : ℝ) : EReal) := by
  simp [Ideal.ofBits, Ideal.ieee, -EReal.coe_mul]; norm_num
/-- The guard is positive. -/
theorem eps_pos : (0 : EReal) < Ideal.ofBits FTy.f32 0x3727C5AC#32 := by
  simp [Ideal.ofBits, Ideal.ieee, -EReal.coe_mul]
/-- A square is not negative. -/
theorem sq_nonneg' (x : EReal) : 0 ≤ x * x := by
  induction x using EReal.rec with
  | bot => simp
  | top => simp
  | coe a => exact_mod_cast mul_self_nonneg a
/-- The root of a positive number is not zero. -/
theorem sqrt_ne (x : EReal) (h : 0 < x) : Ideal.sqrt x ≠ 0 := by
  induction x using EReal.rec with
  | bot => simp at h
  | top => exact EReal.top_ne_zero
  | coe a =>
    have h : 0 < a := by exact_mod_cast h
    show (if a < 0 then ⊥ else (Real.sqrt a : EReal)) ≠ 0
    rw [if_neg (not_lt.2 h.le)]
    exact_mod_cast (Real.sqrt_pos.2 h).ne'

namespace Dat
/-- The root taken in the normalisation is not zero. -/
theorem sd_ne (D : Dat) (r : ℕ) : D.sd r ≠ 0 := by
  refine sqrt_ne _ (lt_of_lt_of_le eps_pos (le_add_of_nonneg_left ?_))
  rw [n1280_eq, Ideal.div, if_neg (by norm_num)]
  refine EReal.mul_nonneg (Finset.sum_nonneg fun _ _ => sq_nonneg' _) ?_
  rw [← EReal.coe_inv]
  exact_mod_cast (by norm_num : (0 : ℝ) ≤ 1280⁻¹)

/-- Multiplying by the reciprocal of the root divides by it. -/
theorem mul_rcp (D : Dat) (r : ℕ) (d : EReal) : d * Ideal.div 1 (D.sd r) = Ideal.div d (D.sd r) := by
  unfold Ideal.div
  rw [if_neg (D.sd_ne r), if_neg (D.sd_ne r), one_mul]
end Dat

/-- The field of a group in a tile is the one of the whole row. -/
theorem gf_tile (v : ℕ → EReal) (w : Fin 128 → EReal) (o : ℕ) (h : ∀ l : Fin 128, w l = v (128 * o + l.val)) (g : ℕ) (hg : g < 4) :
    gf w g = gfN v (4 * o + g) := by
  unfold gf gfN sup32
  refine Finset.sup_congr rfl fun j hj => ?_
  have hj := Finset.mem_range.1 hj
  rw [ext, dif_pos (by omega), h]
  exact congrArg (fun n => fe (v n)) (by show 128 * o + (32 * g + j) = 32 * (4 * o + g) + j; omega)

/-- The bytes of a pair of tiles, at a group of the row. -/
theorem bytes_tile (v : ℕ → EReal) (va vb : FVec Ideal T .f32) (q : ℕ) (r : Fin 256)
    (ha : ∀ l : Fin 128, va (ix2 r l) = v (128 * (2 * q) + l.val)) (hb : ∀ l : Fin 128, vb (ix2 r l) = v (128 * (2 * q + 1) + l.val)) (j : Fin 8) :
    bytes (packT va vb) (ix2 j r) = BitVec.ofNat 32 (sB (gfN v (8 * q + j.val))) := by
  rw [bytes_apply]
  split
  · rename_i hj
    rw [gf_tile v _ (2 * q) ha j.val hj]
    exact congrArg (fun n => BitVec.ofNat 32 (sB (gfN v n))) (by omega)
  · rename_i hj
    rw [gf_tile v _ (2 * q + 1) hb (j.val - 4) (by omega)]
    exact congrArg (fun n => BitVec.ofNat 32 (sB (gfN v n))) (by omega)

namespace Ins
variable {I : Ins} {D : Dat}

/-- The first residual stream's buffer. -/
theorem h1L_canon (H : I.Ok D) (r : Fin 256) (c : Fin 1280) : View.canon I.h1L (ix2 r c) = D.h1 r.val c.val := by
  unfold h1L
  rw [colL_canon 256 1280 256 (by decide) 5 _ _ r c (c.val / 256) (by omega) ⟨c.val % 256, Nat.mod_lt _ (by decide)⟩ (Nat.div_add_mod _ _).symm,
    shapeCast_self]
  pointwise []
  rw [mm_apply, H.x, H.bo]
  have e : 256 * (c.val / 256) + c.val % 256 = c.val := Nat.div_add_mod _ _
  unfold Dat.h1
  simp only [H.aw, H.wo, e]

/-- A tile of it read back. -/
theorem h1_apply (H : I.Ok D) (k : ℕ) (hk : k < 5) (r j : Fin 256) : I.h1 k hk (ix2 r j) = D.h1 r.val (256 * k + j.val) := by
  unfold h1
  exact (readCov_col _ _ _ _ _ r j).trans (h1L_canon H r ⟨256 * k + j.val, by omega⟩)

/-- The normalised row, of a buffer that holds the stream. -/
theorem ln_of (H : I.Ok D) (X : FVec Ideal S256x1280 .f32) (e : ∀ (r : Fin 256) (c : Fin 1280), X (ix2 r c) = D.h1 r.val c.val) (r : Fin 256) (c : Fin 1280) :
    k0_pay28 (F := Ideal) X I.g I.b (ix2 r c) = D.ln r.val c.val := by
  rw [pay28_apply]
  simp only [e, H.g, H.b]
  unfold Dat.ln
  rw [← D.mul_rcp]
  rfl

/-- The normalised row. -/
theorem ln_apply (H : I.Ok D) (r : Fin 256) (c : Fin 1280) : I.ln (ix2 r c) = D.ln r.val c.val := by
  have e : ∀ (r : Fin 256) (c : Fin 1280), I.m5.view.readCov I.h1L (colR 256 1280 0 1280 (by decide)) (ix2 r c) = D.h1 r.val c.val := fun r c =>
    (readCov_col _ _ _ _ _ r c).trans ((h1L_canon H r ⟨0 + c.val, by omega⟩).trans (congrArg (D.h1 r.val) (Nat.zero_add _)))
  exact ln_of H _ e r c

/-- A tile of it. -/
theorem lnT_apply (H : I.Ok D) (k : ℕ) (hk : k < 10) (r : Fin 256) (l : Fin 128) : I.lnT k hk (ix2 r l) = D.ln r.val (128 * k + l.val) := by
  rw [← ln_apply H r ⟨128 * k + l.val, by omega⟩]
  unfold lnT extractStridedSlice
  refine congrArg I.ln (funext fun a => Fin.ext ?_)
  fin_cases a
  · exact Nat.zero_add _
  · rfl

/-- A row is the one of the tile it lies in. -/
theorem row_eq {n : ℕ} (v : ℕ → EReal) (w : Fin 128 → EReal) (o : ℕ) (h : ∀ l : Fin 128, w l = v (128 * o + l.val)) (c : Fin n) (ho : c.val / 128 = o)
    (l : Fin 128) (hl : l.val = c.val % 128) : w l = v c.val ∧ gf w (l.val / 32) = gfN v (c.val / 32) := by
  constructor
  · rw [h]; exact congrArg v (by omega)
  · rw [gf_tile v w o h _ (by omega)]; exact congrArg (gfN v) (by omega)

/-- The codes of the normalised row. -/
theorem c2L_canon (H : I.Ok D) (r : Fin 256) (c : Fin 1280) : View.canon I.c2L (ix2 r c) = D.c2 r.val c.val := by
  unfold c2L
  rw [colL_canon 256 1280 128 (by decide) 10 _ _ r c (c.val / 128) (by omega) ⟨c.val % 128, Nat.mod_lt _ (by decide)⟩ (Nat.div_add_mod _ _).symm]
  split
  · rename_i h2
    rw [codesA_apply]
    obtain ⟨e1, e2⟩ := row_eq (D.ln r.val) _ _ (lnT_apply H (2 * (c.val / 128 / 2)) (by omega) r) c (by omega) ⟨c.val % 128, Nat.mod_lt _ (by decide)⟩ rfl
    rw [e1, e2]; rfl
  · rename_i h2
    rw [codesB_apply]
    obtain ⟨e1, e2⟩ := row_eq (D.ln r.val) _ _ (lnT_apply H (2 * (c.val / 128 / 2) + 1) (by omega) r) c (by omega) ⟨c.val % 128, Nat.mod_lt _ (by decide)⟩ rfl
    rw [e1, e2]; rfl

/-- The normalised row's codes times their scales. -/
theorem aL_canon (H : I.Ok D) (r : Fin 256) (c : Fin 1280) : View.canon I.aL (ix2 r c) = D.lw r.val c.val := by
  unfold aL
  rw [colL_canon 256 1280 128 (by decide) 10 _ _ r c (c.val / 128) (by omega) ⟨c.val % 128, Nat.mod_lt _ (by decide)⟩ (Nat.div_add_mod _ _).symm]
  split
  · rename_i h2
    rw [wideA_apply]
    obtain ⟨e1, e2⟩ := row_eq (D.ln r.val) _ _ (lnT_apply H (2 * (c.val / 128 / 2)) (by omega) r) c (by omega) ⟨c.val % 128, Nat.mod_lt _ (by decide)⟩ rfl
    rw [e1, e2]; rfl
  · rename_i h2
    rw [wideB_apply]
    obtain ⟨e1, e2⟩ := row_eq (D.ln r.val) _ _ (lnT_apply H (2 * (c.val / 128 / 2) + 1) (by omega) r) c (by omega) ⟨c.val % 128, Nat.mod_lt _ (by decide)⟩ rfl
    rw [e1, e2]; rfl

/-- The normalised row's scale bytes, groups down the rows. -/
theorem by2L_canon (H : I.Ok D) (i : Fin 128) (hi : i.val < 40) (r : Fin 256) : View.canon I.by2L (ix2 i r) = BitVec.ofNat 32 (sB (gfN (D.ln r.val) i.val)) := by
  unfold by2L
  rw [rowL_canon 128 256 8 (by decide) 5 _ _ i r (i.val / 8) (by omega) ⟨i.val % 8, Nat.mod_lt _ (by decide)⟩ (Nat.div_add_mod _ _).symm,
    bytes_tile (D.ln r.val) _ _ (i.val / 8) r (lnT_apply H _ _ r) (lnT_apply H _ _ r)]
  exact congrArg (fun n => BitVec.ofNat 32 (sB (gfN (D.ln r.val) n))) (Nat.div_add_mod _ _)

/-- The low byte of a number's word. -/
theorem trunc_ofNat (n : ℕ) : (BitVec.ofNat 32 n).setWidth 8 = BitVec.ofNat 8 n := by
  simp

/-- The normalised row's scale bytes. -/
theorem s2_apply (H : I.Ok D) (r : Fin 256) (i : Fin 40) : I.s2 (ix2 r i) = D.s2 r.val i.val := by
  have e := (readCov_row I.m6.view I.by2L 40 (by decide) i r).trans (by2L_canon H ⟨i.val, by omega⟩ i.isLt r)
  unfold s2
  pointwise []
  rw [e]
  exact trunc_ofNat _

/-- The activation's tile, of a buffer that holds its operand. -/
theorem f_of (H : I.Ok D) (X : FVec Ideal S256x1280 .bf16) (e : ∀ (r : Fin 256) (c : Fin 1280), X (ix2 r c) = D.lw r.val c.val) (k : ℕ) (hk : k < 20) (r j : Fin 256) :
    ge (mm X (I.w1 k hk) (I.b1 k hk)) (ix2 r j) = D.f r.val (256 * k + j.val) := by
  rw [ge_apply, mm_apply]
  simp only [e, H.w1, H.b1]
  rfl

/-- The activation's tile. -/
theorem f_apply (H : I.Ok D) (k : ℕ) (hk : k < 20) (r j : Fin 256) : I.f k hk (ix2 r j) = D.f r.val (256 * k + j.val) := by
  have e : ∀ (r : Fin 256) (c : Fin 1280), I.m3.view.readCov I.aL (colR 256 1280 0 1280 (by decide)) (ix2 r c) = D.lw r.val c.val := fun r c =>
    (readCov_col _ _ _ _ _ r c).trans ((aL_canon H r ⟨0 + c.val, by omega⟩).trans (congrArg (D.lw r.val) (Nat.zero_add _)))
  exact f_of H _ e k hk r j

/-- Its left half. -/
theorem fA_apply (H : I.Ok D) (k : ℕ) (hk : k < 20) (r : Fin 256) (l : Fin 128) : I.fA k hk (ix2 r l) = D.f r.val (128 * (2 * k) + l.val) := by
  refine Eq.trans ?_ ((f_apply H k hk r ⟨l.val, by omega⟩).trans (congrArg (D.f r.val) (by show 256 * k + l.val = _; omega)))
  unfold fA extractStridedSlice
  refine congrArg (I.f k hk) (funext fun a => Fin.ext ?_)
  fin_cases a
  · exact Nat.zero_add _
  · exact Nat.zero_add _

/-- Its right half. -/
theorem fB_apply (H : I.Ok D) (k : ℕ) (hk : k < 20) (r : Fin 256) (l : Fin 128) : I.fB k hk (ix2 r l) = D.f r.val (128 * (2 * k + 1) + l.val) := by
  refine Eq.trans ?_ ((f_apply H k hk r ⟨128 + l.val, by omega⟩).trans (congrArg (D.f r.val) (by show 256 * k + (128 + l.val) = _; omega)))
  unfold fB extractStridedSlice
  refine congrArg (I.f k hk) (funext fun a => Fin.ext ?_)
  fin_cases a
  · exact Nat.zero_add _
  · rfl

/-- The codes of the activation. -/
theorem caL_canon (H : I.Ok D) (r : Fin 256) (c : Fin 5120) : View.canon I.caL (ix2 r c) = D.ca r.val c.val := by
  unfold caL
  rw [colL_canon 256 5120 128 (by decide) 40 _ _ r c (c.val / 128) (by omega) ⟨c.val % 128, Nat.mod_lt _ (by decide)⟩ (Nat.div_add_mod _ _).symm]
  split
  · rename_i h2
    rw [codesA_apply]
    obtain ⟨e1, e2⟩ := row_eq (D.f r.val) _ _ (fA_apply H (c.val / 128 / 2) (by omega) r) c (by omega) ⟨c.val % 128, Nat.mod_lt _ (by decide)⟩ rfl
    rw [e1, e2]; rfl
  · rename_i h2
    rw [codesB_apply]
    obtain ⟨e1, e2⟩ := row_eq (D.f r.val) _ _ (fB_apply H (c.val / 128 / 2) (by omega) r) c (by omega) ⟨c.val % 128, Nat.mod_lt _ (by decide)⟩ rfl
    rw [e1, e2]; rfl

/-- The activation's codes times their scales. -/
theorem actL_canon (H : I.Ok D) (r : Fin 256) (c : Fin 5120) : View.canon I.actL (ix2 r c) = D.fw r.val c.val := by
  unfold actL
  rw [colL_canon 256 5120 128 (by decide) 40 _ _ r c (c.val / 128) (by omega) ⟨c.val % 128, Nat.mod_lt _ (by decide)⟩ (Nat.div_add_mod _ _).symm]
  split
  · rename_i h2
    rw [wideA_apply]
    obtain ⟨e1, e2⟩ := row_eq (D.f r.val) _ _ (fA_apply H (c.val / 128 / 2) (by omega) r) c (by omega) ⟨c.val % 128, Nat.mod_lt _ (by decide)⟩ rfl
    rw [e1, e2]; rfl
  · rename_i h2
    rw [wideB_apply]
    obtain ⟨e1, e2⟩ := row_eq (D.f r.val) _ _ (fB_apply H (c.val / 128 / 2) (by omega) r) c (by omega) ⟨c.val % 128, Nat.mod_lt _ (by decide)⟩ rfl
    rw [e1, e2]; rfl

/-- The activation's scale bytes, groups down the rows. -/
theorem byaL_canon (H : I.Ok D) (i : Fin 256) (hi : i.val < 160) (r : Fin 256) : View.canon I.byaL (ix2 i r) = BitVec.ofNat 32 (sB (gfN (D.f r.val) i.val)) := by
  unfold byaL
  rw [rowL_canon 256 256 8 (by decide) 20 _ _ i r (i.val / 8) (by omega) ⟨i.val % 8, Nat.mod_lt _ (by decide)⟩ (Nat.div_add_mod _ _).symm,
    bytes_tile (D.f r.val) _ _ (i.val / 8) r (fA_apply H _ _ r) (fB_apply H _ _ r)]
  exact congrArg (fun n => BitVec.ofNat 32 (sB (gfN (D.f r.val) n))) (Nat.div_add_mod _ _)

/-- The activation's scale bytes. -/
theorem sa_apply (H : I.Ok D) (r : Fin 256) (i : Fin 160) : I.sa (ix2 r i) = D.sa r.val i.val := by
  have e := (readCov_row I.m7.view I.byaL 160 (by decide) i r).trans (byaL_canon H ⟨i.val, by omega⟩ i.isLt r)
  unfold sa
  pointwise []
  rw [e]
  exact trunc_ofNat _

/-- The second residual stream's tile, of a buffer that holds its operand. -/
theorem h2_of (H : I.Ok D) (X : FVec Ideal S256x5120 .bf16) (e : ∀ (r : Fin 256) (c : Fin 5120), X (ix2 r c) = D.fw r.val c.val) (k : ℕ) (hk : k < 5) (r j : Fin 256) :
    addf (I.h1 k hk) (mm2 X (I.w2 k hk) (I.b2 k hk)) (ix2 r j) = D.h2 r.val (256 * k + j.val) := by
  pointwise []
  rw [mm2_apply, h1_apply H]
  simp only [e, H.w2, H.b2]
  rfl

/-- The second residual stream's tile. -/
theorem h2_apply (H : I.Ok D) (k : ℕ) (hk : k < 5) (r j : Fin 256) : I.h2 k hk (ix2 r j) = D.h2 r.val (256 * k + j.val) := by
  have e : ∀ (r : Fin 256) (c : Fin 5120), I.m4.view.readCov I.actL (colR 256 5120 0 5120 (by decide)) (ix2 r c) = D.fw r.val c.val := fun r c =>
    (readCov_col _ _ _ _ _ r c).trans ((actL_canon H r ⟨0 + c.val, by omega⟩).trans (congrArg (D.fw r.val) (Nat.zero_add _)))
  exact h2_of H _ e k hk r j

/-- The second residual stream. -/
theorem h2L_canon (H : I.Ok D) (r : Fin 256) (c : Fin 1280) : View.canon I.h2L (ix2 r c) = D.h2 r.val c.val := by
  unfold h2L
  rw [colL_canon 256 1280 256 (by decide) 5 _ _ r c (c.val / 256) (by omega) ⟨c.val % 256, Nat.mod_lt _ (by decide)⟩ (Nat.div_add_mod _ _).symm, h2_apply H]
  exact congrArg (D.h2 r.val) (Nat.div_add_mod _ _)

/-- The second residual stream, narrowed. -/
theorem h2bL_canon (H : I.Ok D) (r : Fin 256) (c : Fin 1280) : View.canon I.h2bL (ix2 r c) = D.h2 r.val c.val := by
  unfold h2bL
  rw [colL_canon 256 1280 256 (by decide) 5 _ _ r c (c.val / 256) (by omega) ⟨c.val % 256, Nat.mod_lt _ (by decide)⟩ (Nat.div_add_mod _ _).symm]
  pointwise []
  rw [h2_apply H]
  exact congrArg (D.h2 r.val) (Nat.div_add_mod _ _)
end Ins
end Mx
-- ==== Proof.Bytes.lean ====
/- Four-bit codes: their bytes, the eight-bit numbers built from them, and the power-of-two scales. -/
module

public import proofs.«01_k».proof.Proof.QuantAt
public import Idealize.ShloMosaic.Lib.BitcastFour

@[expose] public section
set_option maxRecDepth 16384
noncomputable section
namespace Mx
open Idealize.ShloMosaic

/-- The eight-bit number that stands for the low code of a byte, divided by 64. -/
def lo8 (b : BitVec 8) : BitVec 8 := ((b &&& 8#8) <<< 4) ||| ((b &&& 7#8) <<< 2)
/-- The eight-bit number that stands for the high code of a byte, divided by 64. -/
def hi8 (b : BitVec 8) : BitVec 8 := (b &&& 128#8) ||| ((b >>> 2) &&& 28#8)
/-- The same for the low codes of four bytes in one word. -/
def lo32 (w : BitVec 32) : BitVec 32 := IntOp.ori (IntOp.shli .vector (IntOp.andi w 134744072#32) 4#32) (IntOp.shli .vector (IntOp.andi w 117901063#32) 2#32)
/-- The same for the high codes of four bytes in one word. -/
def hi32 (w : BitVec 32) : BitVec 32 := IntOp.ori (IntOp.andi w 2155905152#32) (IntOp.andi (IntOp.shrui .vector w 2#32) 471604252#32)

/-- The low codes of a word, as shifts and masks. -/
theorem lo32_eq (w : BitVec 32) : lo32 w = ((w &&& 134744072#32) <<< 4) ||| ((w &&& 117901063#32) <<< 2) := rfl
/-- The high codes of a word, as shifts and masks. -/
theorem hi32_eq (w : BitVec 32) : hi32 w = (w &&& 2155905152#32) ||| ((w >>> 2) &&& 471604252#32) := rfl

/-- The low codes of a word are found byte by byte. -/
theorem lo32_bit (w : BitVec 32) (b : BitVec 8) (k q : ℕ) (hk : k < 4) (hq : q < 8) (h : ∀ p < 8, w.getLsbD (8 * k + p) = b.getLsbD p) :
    (lo32 w).getLsbD (8 * k + q) = (lo8 b).getLsbD q := by
  have h0 := h 0 (by decide); have h1 := h 1 (by decide); have h2 := h 2 (by decide); have h3 := h 3 (by decide)
  rw [lo32_eq]
  unfold lo8
  interval_cases k <;> interval_cases q <;> simp_all

/-- The high codes of a word are found byte by byte. -/
theorem hi32_bit (w : BitVec 32) (b : BitVec 8) (k q : ℕ) (hk : k < 4) (hq : q < 8) (h : ∀ p < 8, w.getLsbD (8 * k + p) = b.getLsbD p) :
    (hi32 w).getLsbD (8 * k + q) = (hi8 b).getLsbD q := by
  have h0 := h 4 (by decide); have h1 := h 5 (by decide); have h2 := h 6 (by decide); have h3 := h 7 (by decide)
  rw [hi32_eq]
  unfold hi8
  interval_cases k <;> interval_cases q <;> simp_all

/-- A map that works byte by byte, on words of four rows: it acts on each row's byte. -/
theorem bytes_map {R r n : ℕ} (f : BitVec 32 → BitVec 32) (g : BitVec 8 → BitVec 8)
    (hfg : ∀ (w : BitVec 32) (b : BitVec 8) (k q : ℕ), k < 4 → q < 8 → (∀ p < 8, w.getLsbD (8 * k + p) = b.getLsbD p) → (f w).getLsbD (8 * k + q) = (g b).getLsbD q)
    (x : (⟨2, ![R, n]⟩ : Shape).Idx → BitVec 8) (y : (⟨2, ![r, n]⟩ : Shape).Idx → BitVec 32)
    (h : (⟨2, ![R, n]⟩ : Shape).Bitcasts 8 ⟨2, ![r, n]⟩ 32) (h' : (⟨2, ![r, n]⟩ : Shape).Bitcasts 32 ⟨2, ![R, n]⟩ 8) (hy : ∀ j, y j = f (bitcast ⟨2, ![r, n]⟩ 32 x h j))
    (i : Fin R) (hi : i.val / 4 < r) (c : Fin n) :
    bitcast ⟨2, ![R, n]⟩ 8 y h' (ValueIdx.ix2 i c) = g (x (ValueIdx.ix2 i c)) := by
  apply BitVec.eq_of_getLsbD_eq
  intro q hq
  rw [bitcast_getLsbD y h' _ q hq (by decide)]
  have row : (⟨2, ![R, n]⟩ : Shape).row (ValueIdx.ix2 i c) = i.val := rfl
  have e : h'.srcIdx (ValueIdx.ix2 i c) (((⟨2, ![R, n]⟩ : Shape).row (ValueIdx.ix2 i c) * 8 + q) / 32) (fun a ha =>
      (Nat.div_lt_iff_lt_mul (by decide)).2 (h'.pos_lt _ q hq a ha)) = ValueIdx.ix2 ⟨i.val / 4, hi⟩ c := by
    funext a
    match a with
    | ⟨0, _⟩ => exact Fin.ext ((h'.srcIdx_row _ _ _ ⟨0, Nat.zero_lt_two⟩ rfl).trans (by rw [row]; show _ = i.val / 4; omega))
    | ⟨1, _⟩ => exact Fin.ext (h'.srcIdx_other _ _ _ ⟨1, Nat.one_lt_two⟩ (by show ¬ 1 + 2 = 2; omega))
  rw [e, hy, row]
  have em : (i.val * 8 + q) % 32 = 8 * (i.val % 4) + q := by omega
  rw [em]
  refine hfg _ _ _ _ (by omega) hq fun p hp => ?_
  rw [bitcast_8_32_getLsbD_ix2 x h ⟨i.val / 4, hi⟩ c _ (by omega) i (by show i.val = 4 * (i.val / 4) + _; omega)]
  congr 1
  omega

/-- A scale byte's number. -/
def scl (b : BitVec 8) : EReal := Ideal.ofBits .f32 (E b.toNat)

/-- A four-bit code's number, from the eight-bit number that stands for it. -/
def nv (b : BitVec 8) : EReal := Ideal.ofBits .fp8e4m3 b * Ideal.ofBits .bf16 0x4280#16

/-- Dense weights: codes of four bits, two to a byte (the low ones the first `H` columns), times scales shared by 32 rows. -/
def dense (H : ℕ) (w : ℕ → ℕ → BitVec 8) (s : ℕ → ℕ → BitVec 8) (k c : ℕ) : EReal :=
  (if c < H then nv (lo8 (w k c)) else nv (hi8 (w k (c - H)))) * scl (s (k / 32) c)
end Mx
-- ==== Proof.Decode.lean ====
/- The decoded weights: what the decoding loops leave in their buffers. -/
module

public import proofs.«01_k».proof.Proof.Lists
public import proofs.«01_k».proof.Proof.Bytes

@[expose] public section
set_option maxRecDepth 16384
noncomputable section
namespace Mx
open Idealize.ShloMosaic Idealize.ShloMosaic.TcCoe Idealize.ShloMosaic.Tactic Cert.KernelIdeal Cert.KernelIdeal.Gen

/-- Stores of two halves of 32 rows each, block of rows after block of rows: what they leave. -/
theorem trips_canon {e : EltTy} {K W H N : ℕ} (hW : W = 2 * H) (L : ℕ → List (View.Piece (Elt Ideal) ⟨2, ![K, W]⟩ e)) (o3 o4 : Fin N → Fin 2 → ℕ)
    (h3 : ∀ k, o3 k = ![32 * k.val, 0]) (h4 : ∀ k, o4 k = ![32 * k.val, H])
    (b3 : ∀ k, ∀ a : Fin (⟨2, ![K, W]⟩ : Shape).rank, o3 k a + (⟨2, ![32, H]⟩ : Shape).size a ≤ (⟨2, ![K, W]⟩ : Shape).size a)
    (b4 : ∀ k, ∀ a : Fin (⟨2, ![K, W]⟩ : Shape).rank, o4 k a + (⟨2, ![32, H]⟩ : Shape).size a ≤ (⟨2, ![K, W]⟩ : Shape).size a)
    (f g : Fin N → (⟨2, ![32, H]⟩ : Shape).Idx → Elt Ideal e)
    (hL : ∀ k : Fin N, L (k.val + 1) = [⟨Rect.unit (s := ⟨2, ![K, W]⟩) (o4 k) (⟨2, ![32, H]⟩ : Shape).size (b4 k), g k⟩,
      ⟨Rect.unit (s := ⟨2, ![K, W]⟩) (o3 k) (⟨2, ![32, H]⟩ : Shape).size (b3 k), f k⟩] ++ L k.val) :
    ∀ n ≤ N, ∀ (r : Fin K) (c : Fin W) (k : Fin N) (i : Fin 32), r.val = 32 * k.val + i.val → k.val < n →
      View.canon (L n) (ix2 r c) = if h : c.val < H then f k (ix2 i ⟨c.val, h⟩) else g k (ix2 i ⟨c.val - H, by omega⟩)
  | 0, _, _, _, _, _, _, hk => absurd hk (Nat.not_lt_zero _)
  | n + 1, hn, r, c, k, i, hr, hk => by
    have e3 : o3 = fun k => ![32 * k.val, 0] := funext h3
    have e4 : o4 = fun k => ![32 * k.val, H] := funext h4
    subst e3 e4
    rw [hL ⟨n, hn⟩]
    by_cases hkn : k.val = n
    · have ek : (⟨n, hn⟩ : Fin N) = k := Fin.ext hkn.symm
      rw [ek]
      by_cases h : c.val < H
      · rw [dif_pos h, List.cons_append, View.canon_cons_of_not_mem, List.cons_append,
          show (ix2 r c : (⟨2, ![K, W]⟩ : Shape).Idx) = (Rect.unit (s := ⟨2, ![K, W]⟩) ![32 * k.val, 0] (⟨2, ![32, H]⟩ : Shape).size (b3 k)).emb (ix2 i ⟨c.val, h⟩) from ?_, View.canon_cons_emb]
        · funext a
          refine Fin.ext ?_
          rw [Rect.emb_apply]
          fin_cases a
          · exact (show r.val = 32 * k.val + 1 * i.val by omega)
          · exact (show c.val = 0 + 1 * c.val by omega)
        · rw [Rect.mem_set_unit]
          intro hm
          have : H ≤ c.val := (hm 1).1
          omega
      · rw [dif_neg h, List.cons_append,
          show (ix2 r c : (⟨2, ![K, W]⟩ : Shape).Idx) = (Rect.unit (s := ⟨2, ![K, W]⟩) ![32 * k.val, H] (⟨2, ![32, H]⟩ : Shape).size (b4 k)).emb (ix2 i ⟨c.val - H, by omega⟩) from ?_, View.canon_cons_emb]
        funext a
        refine Fin.ext ?_
        rw [Rect.emb_apply]
        fin_cases a
        · exact (show r.val = 32 * k.val + 1 * i.val by omega)
        · exact (show c.val = H + 1 * (c.val - H) by omega)
    · rw [List.cons_append, View.canon_cons_of_not_mem, List.cons_append, View.canon_cons_of_not_mem, List.nil_append]
      · exact trips_canon hW L _ _ h3 h4 b3 b4 f g hL n (by omega) r c k i hr (by omega)
      · rw [Rect.mem_set_unit]
        intro hm
        have : 32 * n ≤ r.val := (hm 0).1
        omega
      · rw [Rect.mem_set_unit]
        intro hm
        have : 32 * n ≤ r.val := (hm 0).1
        omega

/-- A block read from a whole buffer. -/
theorem readAt_blk {e : EltTy} {R C r n : ℕ} (m : Memref sig .tc .vmem ⟨2, ![R, C]⟩ e) (hm : m.IsWhole) (x : (⟨2, ![R, C]⟩ : Shape).Idx → Elt Ideal e) (o : Fin 2 → ℕ)
    (a b : ℕ) (ho : o = ![a, b]) (h : ∀ d : Fin (⟨2, ![R, C]⟩ : Shape).rank, o d + (⟨2, ![r, n]⟩ : Shape).size d ≤ (⟨2, ![R, C]⟩ : Shape).size d)
    (i : Fin r) (j : Fin n) (hi : a + i.val < R) (hj : b + j.val < C) :
    m.view.readAt (Elt Ideal) (Rect.unit (s := ⟨2, ![R, C]⟩) o (⟨2, ![r, n]⟩ : Shape).size h).toLoadRect (hm.unread x) (ix2 i j) = x (ix2 ⟨a + i.val, hi⟩ ⟨b + j.val, hj⟩) := by
  subst ho
  rw [show (ix2 ⟨a + i.val, hi⟩ ⟨b + j.val, hj⟩ : (⟨2, ![R, C]⟩ : Shape).Idx) = (Rect.unit (s := ⟨2, ![R, C]⟩) ![a, b] (⟨2, ![r, n]⟩ : Shape).size h).toLoadRect.idx (ix2 i j) from ?_]
  · exact congrFun (hm.read_unread x) _
  · funext d
    refine Fin.ext ?_
    fin_cases d
    · exact (show a + i.val = a + 1 * i.val by omega)
    · exact (show b + j.val = b + 1 * j.val by omega)

/-- The stores of one trip. -/
theorem trip1_eq (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (k0_h1 : k0_cond1 i = 1#1) (XW : BufTy.Contents (Elt Ideal) arg3.view.ty) (XS : BufTy.Contents (Elt Ideal) arg4.view.ty) (k : Fin k0_t1_loop.trips) :
    (trip_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 XW XS k).1
    = [⟨Rect.unit (s := S1280x1280) (k0_off4 k) S32x640.size (k0_off4_inb i k k0_h1), k0_pay16 (k0_pay6 (arg4.view.readAt (Elt Ideal) (Rect.unit (s := S40x1280) (k0_off1 k) S1x1280.size (k0_off1_inb i k k0_h1)).toLoadRect XS) (arg3.view.readAt (Elt Ideal) (Rect.unit (s := S1280x640) (k0_off2 k) S32x640.size (k0_off2_inb i k k0_h1)).toLoadRect XW))⟩,
      ⟨Rect.unit (s := S1280x1280) (k0_off3 k) S32x640.size (k0_off3_inb i k k0_h1), k0_pay15 (k0_pay5 (arg4.view.readAt (Elt Ideal) (Rect.unit (s := S40x1280) (k0_off1 k) S1x1280.size (k0_off1_inb i k k0_h1)).toLoadRect XS) (arg3.view.readAt (Elt Ideal) (Rect.unit (s := S1280x640) (k0_off2 k) S32x640.size (k0_off2_inb i k k0_h1)).toLoadRect XW))⟩] := by
  sl_kernel_rfl

/-- The stores of one trip. -/
theorem trip2_eq (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (k0_h1 : k0_cond1 i = 1#1) (XW : BufTy.Contents (Elt Ideal) arg8.view.ty) (XS : BufTy.Contents (Elt Ideal) arg9.view.ty) (k : Fin k0_t2_loop.trips) :
    (trip_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 XW XS k).1
    = [⟨Rect.unit (s := S1280x5120) (k0_off8 k) S32x2560.size (k0_off8_inb i k k0_h1), k0_pay18 (k0_pay10 (arg9.view.readAt (Elt Ideal) (Rect.unit (s := S40x5120) (k0_off5 k) S1x5120.size (k0_off5_inb i k k0_h1)).toLoadRect XS) (arg8.view.readAt (Elt Ideal) (Rect.unit (s := S1280x2560) (k0_off6 k) S32x2560.size (k0_off6_inb i k k0_h1)).toLoadRect XW))⟩,
      ⟨Rect.unit (s := S1280x5120) (k0_off7 k) S32x2560.size (k0_off7_inb i k k0_h1), k0_pay17 (k0_pay9 (arg9.view.readAt (Elt Ideal) (Rect.unit (s := S40x5120) (k0_off5 k) S1x5120.size (k0_off5_inb i k k0_h1)).toLoadRect XS) (arg8.view.readAt (Elt Ideal) (Rect.unit (s := S1280x2560) (k0_off6 k) S32x2560.size (k0_off6_inb i k k0_h1)).toLoadRect XW))⟩] := by
  sl_kernel_rfl

/-- The stores of one trip. -/
theorem trip3_eq (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (k0_h1 : k0_cond1 i = 1#1) (XW : BufTy.Contents (Elt Ideal) arg11.view.ty) (XS : BufTy.Contents (Elt Ideal) arg12.view.ty) (k : Fin k0_t3_loop.trips) :
    (trip_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 XW XS k).1
    = [⟨Rect.unit (s := S5120x1280) (k0_off12 k) S32x640.size (k0_off12_inb i k k0_h1), k0_pay20 (k0_pay14 (arg12.view.readAt (Elt Ideal) (Rect.unit (s := S160x1280) (k0_off9 k) S1x1280.size (k0_off9_inb i k k0_h1)).toLoadRect XS) (arg11.view.readAt (Elt Ideal) (Rect.unit (s := S5120x640) (k0_off10 k) S32x640.size (k0_off10_inb i k k0_h1)).toLoadRect XW))⟩,
      ⟨Rect.unit (s := S5120x1280) (k0_off11 k) S32x640.size (k0_off11_inb i k k0_h1), k0_pay19 (k0_pay13 (arg12.view.readAt (Elt Ideal) (Rect.unit (s := S160x1280) (k0_off9 k) S1x1280.size (k0_off9_inb i k k0_h1)).toLoadRect XS) (arg11.view.readAt (Elt Ideal) (Rect.unit (s := S5120x640) (k0_off10 k) S32x640.size (k0_off10_inb i k k0_h1)).toLoadRect XW))⟩] := by
  sl_kernel_rfl

/-- The low half of one trip's numbers. -/
theorem trip1_lo (s : Vec Ideal S1x1280 .f32) (w : Vec Ideal S32x640 .i8) (i : Fin 32) (j : Fin 640) :
    k0_pay15 (k0_pay5 s w) (ix2 i j) = nv (lo8 (w (ix2 i j))) * s (ix2 0 ⟨0 + j.val, by omega⟩) := by
  have e := bytes_map lo32 lo8 lo32_bit w (fun q => lo32 (bitcast S8x640 32 w bitcasts_S32x640_w8_S8x640_w32 q)) bitcasts_S32x640_w8_S8x640_w32 bitcasts_S8x640_w32_S32x640_w8 (fun _ => rfl) i (by omega) j
  unfold k0_pay15 k0_pay5 k0_pay3 k0_pay4
  pointwise
  exact congr (congrArg HMul.hMul (congrArg (fun b => Ideal.ofBits .fp8e4m3 b * Ideal.ofBits .bf16 0x4280#16) e)) (congrArg s (congrArg₂ ix2 rfl (Fin.ext (by simp))))

/-- The high half of one trip's numbers. -/
theorem trip1_hi (s : Vec Ideal S1x1280 .f32) (w : Vec Ideal S32x640 .i8) (i : Fin 32) (j : Fin 640) :
    k0_pay16 (k0_pay6 s w) (ix2 i j) = nv (hi8 (w (ix2 i j))) * s (ix2 0 ⟨640 + j.val, by omega⟩) := by
  have e := bytes_map hi32 hi8 hi32_bit w (fun q => hi32 (bitcast S8x640 32 w bitcasts_S32x640_w8_S8x640_w32 q)) bitcasts_S32x640_w8_S8x640_w32 bitcasts_S8x640_w32_S32x640_w8 (fun _ => rfl) i (by omega) j
  unfold k0_pay16 k0_pay6 k0_pay3 k0_pay4
  pointwise
  exact congr (congrArg HMul.hMul (congrArg (fun b => Ideal.ofBits .fp8e4m3 b * Ideal.ofBits .bf16 0x4280#16) e)) (congrArg s (congrArg₂ ix2 rfl (Fin.ext (by simp))))

/-- The low half of one trip's numbers. -/
theorem trip3_lo (s : Vec Ideal S1x1280 .f32) (w : Vec Ideal S32x640 .i8) (i : Fin 32) (j : Fin 640) :
    k0_pay19 (k0_pay13 s w) (ix2 i j) = nv (lo8 (w (ix2 i j))) * s (ix2 0 ⟨0 + j.val, by omega⟩) := by
  have e := bytes_map lo32 lo8 lo32_bit w (fun q => lo32 (bitcast S8x640 32 w bitcasts_S32x640_w8_S8x640_w32 q)) bitcasts_S32x640_w8_S8x640_w32 bitcasts_S8x640_w32_S32x640_w8 (fun _ => rfl) i (by omega) j
  unfold k0_pay19 k0_pay13 k0_pay11 k0_pay12
  pointwise
  exact congr (congrArg HMul.hMul (congrArg (fun b => Ideal.ofBits .fp8e4m3 b * Ideal.ofBits .bf16 0x4280#16) e)) (congrArg s (congrArg₂ ix2 rfl (Fin.ext (by simp))))

/-- The high half of one trip's numbers. -/
theorem trip3_hi (s : Vec Ideal S1x1280 .f32) (w : Vec Ideal S32x640 .i8) (i : Fin 32) (j : Fin 640) :
    k0_pay20 (k0_pay14 s w) (ix2 i j) = nv (hi8 (w (ix2 i j))) * s (ix2 0 ⟨640 + j.val, by omega⟩) := by
  have e := bytes_map hi32 hi8 hi32_bit w (fun q => hi32 (bitcast S8x640 32 w bitcasts_S32x640_w8_S8x640_w32 q)) bitcasts_S32x640_w8_S8x640_w32 bitcasts_S8x640_w32_S32x640_w8 (fun _ => rfl) i (by omega) j
  unfold k0_pay20 k0_pay14 k0_pay11 k0_pay12
  pointwise
  exact congr (congrArg HMul.hMul (congrArg (fun b => Ideal.ofBits .fp8e4m3 b * Ideal.ofBits .bf16 0x4280#16) e)) (congrArg s (congrArg₂ ix2 rfl (Fin.ext (by simp))))

/-- The low half of one trip's numbers. -/
theorem trip2_lo (s : Vec Ideal S1x5120 .f32) (w : Vec Ideal S32x2560 .i8) (i : Fin 32) (j : Fin 2560) :
    k0_pay17 (k0_pay9 s w) (ix2 i j) = nv (lo8 (w (ix2 i j))) * s (ix2 0 ⟨0 + j.val, by omega⟩) := by
  have e := bytes_map lo32 lo8 lo32_bit w (fun q => lo32 (bitcast S8x2560 32 w bitcasts_S32x2560_w8_S8x2560_w32 q)) bitcasts_S32x2560_w8_S8x2560_w32 bitcasts_S8x2560_w32_S32x2560_w8 (fun _ => rfl) i (by omega) j
  unfold k0_pay17 k0_pay9 k0_pay7 k0_pay8
  pointwise
  exact congr (congrArg HMul.hMul (congrArg (fun b => Ideal.ofBits .fp8e4m3 b * Ideal.ofBits .bf16 0x4280#16) e)) (congrArg s (congrArg₂ ix2 rfl (Fin.ext (by simp))))

/-- The high half of one trip's numbers. -/
theorem trip2_hi (s : Vec Ideal S1x5120 .f32) (w : Vec Ideal S32x2560 .i8) (i : Fin 32) (j : Fin 2560) :
    k0_pay18 (k0_pay10 s w) (ix2 i j) = nv (hi8 (w (ix2 i j))) * s (ix2 0 ⟨2560 + j.val, by omega⟩) := by
  have e := bytes_map hi32 hi8 hi32_bit w (fun q => hi32 (bitcast S8x2560 32 w bitcasts_S32x2560_w8_S8x2560_w32 q)) bitcasts_S32x2560_w8_S8x2560_w32 bitcasts_S8x2560_w32_S32x2560_w8 (fun _ => rfl) i (by omega) j
  unfold k0_pay18 k0_pay10 k0_pay7 k0_pay8
  pointwise
  exact congr (congrArg HMul.hMul (congrArg (fun b => Ideal.ofBits .fp8e4m3 b * Ideal.ofBits .bf16 0x4280#16) e)) (congrArg s (congrArg₂ ix2 rfl (Fin.ext (by simp))))

/-- What loop 1 leaves: the dense weights. -/
theorem pb1_canon (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (k0_h1 : k0_cond1 i = 1#1) (xw : Vec Ideal S1280x640 .i8) (xs : Vec Ideal S40x1280 .f32) (r : Fin 1280) (q : Fin 1280) :
    View.canon (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 (harg3.unread xw) (harg4.unread xs) (Scf.trips k0_t1_loop.lb k0_t1_loop.ub k0_t1_loop.st)) (ix2 r q)
    = (if h : q.val < 640 then nv (lo8 (xw (ix2 r ⟨q.val, h⟩))) else nv (hi8 (xw (ix2 r ⟨q.val - 640, by omega⟩)))) * xs (ix2 ⟨r.val / 32, by omega⟩ q) := by
  have hN : k0_t1_loop.trips = 40 := by decide
  rw [trips_canon (K := 1280) (W := 1280) (H := 640) (N := k0_t1_loop.trips) rfl
    (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 (harg3.unread xw) (harg4.unread xs))
    k0_off3 k0_off4 k0_off3_eq k0_off4_eq (fun k => k0_off3_inb i k k0_h1) (fun k => k0_off4_inb i k k0_h1)
    _ _ (fun k => (pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 (harg3.unread xw) (harg4.unread xs) k).trans (congrArg (· ++ _) (trip1_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 (harg3.unread xw) (harg4.unread xs) k)))
    _ le_rfl r q ⟨r.val / 32, by omega⟩ ⟨r.val % 32, by omega⟩ (by show r.val = 32 * (r.val / 32) + r.val % 32; omega) (by show r.val / 32 < _; rw [hN]; omega)]
  have hr : (⟨32 * (r.val / 32) + r.val % 32, by omega⟩ : Fin 1280) = r := Fin.ext (by show 32 * (r.val / 32) + r.val % 32 = r.val; omega)
  by_cases h : q.val < 640
  · rw [dif_pos h, dif_pos h, trip1_lo]
    rw [readAt_blk arg3 harg3 xw _ (32 * (r.val / 32)) 0 (k0_off2_eq _) _ _ _ (by show 32 * (r.val / 32) + r.val % 32 < 1280; omega) (by show 0 + q.val < 640; omega),
      readAt_blk arg4 harg4 xs _ (r.val / 32) 0 (k0_off1_eq _) _ _ _ (by show r.val / 32 + 0 < 40; omega) (by show 0 + (0 + q.val) < 1280; omega)]
    exact congr (congrArg HMul.hMul (congrArg (fun z => nv (lo8 (xw z))) (congrArg₂ ix2 hr (Fin.ext (by simp))))) (congrArg xs (congrArg₂ ix2 (Fin.ext (by simp)) (Fin.ext (by simp))))
  · rw [dif_neg h, dif_neg h, trip1_hi]
    rw [readAt_blk arg3 harg3 xw _ (32 * (r.val / 32)) 0 (k0_off2_eq _) _ _ _ (by show 32 * (r.val / 32) + r.val % 32 < 1280; omega) (by show 0 + (q.val - 640) < 640; omega),
      readAt_blk arg4 harg4 xs _ (r.val / 32) 0 (k0_off1_eq _) _ _ _ (by show r.val / 32 + 0 < 40; omega) (by show 0 + (640 + (q.val - 640)) < 1280; omega)]
    exact congr (congrArg HMul.hMul (congrArg (fun z => nv (hi8 (xw z))) (congrArg₂ ix2 hr (Fin.ext (by simp))))) (congrArg xs (congrArg₂ ix2 (Fin.ext (by simp)) (Fin.ext (by simp; omega))))

/-- What loop 2 leaves: the dense weights. -/
theorem pb2_canon (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (k0_h1 : k0_cond1 i = 1#1) (xw : Vec Ideal S1280x2560 .i8) (xs : Vec Ideal S40x5120 .f32) (r : Fin 1280) (q : Fin 5120) :
    View.canon (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 (harg8.unread xw) (harg9.unread xs) (Scf.trips k0_t2_loop.lb k0_t2_loop.ub k0_t2_loop.st)) (ix2 r q)
    = (if h : q.val < 2560 then nv (lo8 (xw (ix2 r ⟨q.val, h⟩))) else nv (hi8 (xw (ix2 r ⟨q.val - 2560, by omega⟩)))) * xs (ix2 ⟨r.val / 32, by omega⟩ q) := by
  have hN : k0_t2_loop.trips = 40 := by decide
  rw [trips_canon (K := 1280) (W := 5120) (H := 2560) (N := k0_t2_loop.trips) rfl
    (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 (harg8.unread xw) (harg9.unread xs))
    k0_off7 k0_off8 k0_off7_eq k0_off8_eq (fun k => k0_off7_inb i k k0_h1) (fun k => k0_off8_inb i k k0_h1)
    _ _ (fun k => (pb_k0_t2_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 (harg8.unread xw) (harg9.unread xs) k).trans (congrArg (· ++ _) (trip2_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 (harg8.unread xw) (harg9.unread xs) k)))
    _ le_rfl r q ⟨r.val / 32, by omega⟩ ⟨r.val % 32, by omega⟩ (by show r.val = 32 * (r.val / 32) + r.val % 32; omega) (by show r.val / 32 < _; rw [hN]; omega)]
  have hr : (⟨32 * (r.val / 32) + r.val % 32, by omega⟩ : Fin 1280) = r := Fin.ext (by show 32 * (r.val / 32) + r.val % 32 = r.val; omega)
  by_cases h : q.val < 2560
  · rw [dif_pos h, dif_pos h, trip2_lo]
    rw [readAt_blk arg8 harg8 xw _ (32 * (r.val / 32)) 0 (k0_off6_eq _) _ _ _ (by show 32 * (r.val / 32) + r.val % 32 < 1280; omega) (by show 0 + q.val < 2560; omega),
      readAt_blk arg9 harg9 xs _ (r.val / 32) 0 (k0_off5_eq _) _ _ _ (by show r.val / 32 + 0 < 40; omega) (by show 0 + (0 + q.val) < 5120; omega)]
    exact congr (congrArg HMul.hMul (congrArg (fun z => nv (lo8 (xw z))) (congrArg₂ ix2 hr (Fin.ext (by simp))))) (congrArg xs (congrArg₂ ix2 (Fin.ext (by simp)) (Fin.ext (by simp))))
  · rw [dif_neg h, dif_neg h, trip2_hi]
    rw [readAt_blk arg8 harg8 xw _ (32 * (r.val / 32)) 0 (k0_off6_eq _) _ _ _ (by show 32 * (r.val / 32) + r.val % 32 < 1280; omega) (by show 0 + (q.val - 2560) < 2560; omega),
      readAt_blk arg9 harg9 xs _ (r.val / 32) 0 (k0_off5_eq _) _ _ _ (by show r.val / 32 + 0 < 40; omega) (by show 0 + (2560 + (q.val - 2560)) < 5120; omega)]
    exact congr (congrArg HMul.hMul (congrArg (fun z => nv (hi8 (xw z))) (congrArg₂ ix2 hr (Fin.ext (by simp))))) (congrArg xs (congrArg₂ ix2 (Fin.ext (by simp)) (Fin.ext (by simp; omega))))

/-- What loop 3 leaves: the dense weights. -/
theorem pb3_canon (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (k0_h1 : k0_cond1 i = 1#1) (xw : Vec Ideal S5120x640 .i8) (xs : Vec Ideal S160x1280 .f32) (r : Fin 5120) (q : Fin 1280) :
    View.canon (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 (harg11.unread xw) (harg12.unread xs) (Scf.trips k0_t3_loop.lb k0_t3_loop.ub k0_t3_loop.st)) (ix2 r q)
    = (if h : q.val < 640 then nv (lo8 (xw (ix2 r ⟨q.val, h⟩))) else nv (hi8 (xw (ix2 r ⟨q.val - 640, by omega⟩)))) * xs (ix2 ⟨r.val / 32, by omega⟩ q) := by
  have hN : k0_t3_loop.trips = 160 := by decide
  rw [trips_canon (K := 5120) (W := 1280) (H := 640) (N := k0_t3_loop.trips) rfl
    (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 (harg11.unread xw) (harg12.unread xs))
    k0_off11 k0_off12 k0_off11_eq k0_off12_eq (fun k => k0_off11_inb i k k0_h1) (fun k => k0_off12_inb i k k0_h1)
    _ _ (fun k => (pb_k0_t3_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 (harg11.unread xw) (harg12.unread xs) k).trans (congrArg (· ++ _) (trip3_eq c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 k0_h1 (harg11.unread xw) (harg12.unread xs) k)))
    _ le_rfl r q ⟨r.val / 32, by omega⟩ ⟨r.val % 32, by omega⟩ (by show r.val = 32 * (r.val / 32) + r.val % 32; omega) (by show r.val / 32 < _; rw [hN]; omega)]
  have hr : (⟨32 * (r.val / 32) + r.val % 32, by omega⟩ : Fin 5120) = r := Fin.ext (by show 32 * (r.val / 32) + r.val % 32 = r.val; omega)
  by_cases h : q.val < 640
  · rw [dif_pos h, dif_pos h, trip3_lo]
    rw [readAt_blk arg11 harg11 xw _ (32 * (r.val / 32)) 0 (k0_off10_eq _) _ _ _ (by show 32 * (r.val / 32) + r.val % 32 < 5120; omega) (by show 0 + q.val < 640; omega),
      readAt_blk arg12 harg12 xs _ (r.val / 32) 0 (k0_off9_eq _) _ _ _ (by show r.val / 32 + 0 < 160; omega) (by show 0 + (0 + q.val) < 1280; omega)]
    exact congr (congrArg HMul.hMul (congrArg (fun z => nv (lo8 (xw z))) (congrArg₂ ix2 hr (Fin.ext (by simp))))) (congrArg xs (congrArg₂ ix2 (Fin.ext (by simp)) (Fin.ext (by simp))))
  · rw [dif_neg h, dif_neg h, trip3_hi]
    rw [readAt_blk arg11 harg11 xw _ (32 * (r.val / 32)) 0 (k0_off10_eq _) _ _ _ (by show 32 * (r.val / 32) + r.val % 32 < 5120; omega) (by show 0 + (q.val - 640) < 640; omega),
      readAt_blk arg12 harg12 xs _ (r.val / 32) 0 (k0_off9_eq _) _ _ _ (by show r.val / 32 + 0 < 160; omega) (by show 0 + (640 + (q.val - 640)) < 1280; omega)]
    exact congr (congrArg HMul.hMul (congrArg (fun z => nv (hi8 (xw z))) (congrArg₂ ix2 hr (Fin.ext (by simp))))) (congrArg xs (congrArg₂ ix2 (Fin.ext (by simp)) (Fin.ext (by simp; omega))))

end Mx
-- ==== Proof.InsA.lean ====
/- What the body reads in case A. -/
module

public import proofs.«01_k».proof.Proof.KBody

@[expose] public section
set_option maxRecDepth 16384
noncomputable section
namespace Mx
open Idealize.ShloMosaic Idealize.ShloMosaic.TcCoe Idealize.ShloMosaic.Tactic Cert.KernelIdeal Cert.KernelIdeal.Gen
/-- What the body reads in case A. -/
def insA (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) : Ins where
  aw := arg1.view.readAt (Elt Ideal) (colR 256 1280 0 1280 (by decide)) (harg1.unread x0)
  x := fun k hk => arg2.view.readAt (Elt Ideal) (colR 256 1280 (256 * k) 256 (by omega)) (harg2.unread x1)
  wo := fun k hk => arg20.view.readCov (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 (harg3.unread x2) (harg4.unread x3) (Scf.trips k0_t1_loop.lb k0_t1_loop.ub k0_t1_loop.st)) (colR 1280 1280 (256 * k) 256 (by omega))
  bo := fun k hk => arg5.view.readAt (Elt Ideal) (colR 1 1280 (256 * k) 256 (by omega)) (harg5.unread x4)
  g := arg6.view.readAt (Elt Ideal) (colR 1 1280 0 1280 (by decide)) (harg6.unread x5)
  b := arg7.view.readAt (Elt Ideal) (colR 1 1280 0 1280 (by decide)) (harg7.unread x6)
  w1 := fun k hk => arg21.view.readCov (pb_k0_t2 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 (harg8.unread x7) (harg9.unread x8) (Scf.trips k0_t2_loop.lb k0_t2_loop.ub k0_t2_loop.st)) (colR 1280 5120 (256 * k) 256 (by omega))
  b1 := fun k hk => arg10.view.readAt (Elt Ideal) (colR 1 5120 (256 * k) 256 (by omega)) (harg10.unread x9)
  w2 := fun k hk => arg22.view.readCov (pb_k0_t3 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 (harg11.unread x10) (harg12.unread x11) (Scf.trips k0_t3_loop.lb k0_t3_loop.ub k0_t3_loop.st)) (colR 5120 1280 (256 * k) 256 (by omega))
  b2 := fun k hk => arg13.view.readAt (Elt Ideal) (colR 1 1280 (256 * k) 256 (by omega)) (harg13.unread x12)
  m3 := arg23
  m4 := arg24
  m5 := arg25
  m6 := arg26
  m7 := arg27

end Mx
-- ==== Proof.RunsA.lean ====
/- The stores of case A into each output. -/
module

public import proofs.«01_k».proof.Proof.InsA

@[expose] public section
set_option maxRecDepth 16384
noncomputable section
namespace Mx
open Idealize.ShloMosaic Idealize.ShloMosaic.TcCoe Idealize.ShloMosaic.Tactic Cert.KernelIdeal Cert.KernelIdeal.Gen
/-- The stores of case A into the output of the first codes. -/
theorem runA_c2 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).1 = (insA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).c2L := by
  sl_kernel_rfl

/-- The stores of case A into the output of the first scale bytes. -/
theorem runA_s2 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.1 = [⟨Rect.unit (s := S256x40) ![0, 0] S256x40.size inb_S256x40_S256x40_0_0, (insA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).s2⟩] := by
  sl_kernel_rfl

/-- The stores of case A into the output of the second codes. -/
theorem runA_ca (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.1 = (insA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).caL := by
  sl_kernel_rfl

/-- The stores of case A into the output of the second scale bytes. -/
theorem runA_sa (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.2.1 = [⟨Rect.unit (s := S256x160) ![0, 0] S256x160.size inb_S256x160_S256x160_0_0, (insA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).sa⟩] := by
  sl_kernel_rfl

/-- The stores of case A into the output of the second residual stream. -/
theorem runA_h2 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.2.2.1 = (insA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).h2L := by
  sl_kernel_rfl

/-- The stores of case A into the output of its rounded copy. -/
theorem runA_h2b (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).2.2.2.2.2.1 = (insA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).h2bL := by
  sl_kernel_rfl

end Mx
-- ==== Proof.Good.lean ====
/- The rows a grid point leaves. -/
module

public import proofs.«01_k».proof.Proof.Spec
public import proofs.«01_k».proof.Proof.Gen.KernelIdeal.Frame

@[expose] public section
set_option maxRecDepth 16384
noncomputable section
namespace Mx
open Idealize.ShloMosaic Idealize.ShloMosaic.TcCoe Idealize.ShloMosaic.Tactic Cert.KernelIdeal Cert.KernelIdeal.Gen

/-- The nine buffers a point leaves hold `D`'s rows and its dense weights. -/
def Good (o : Vec Ideal S256x1280 .fp8e4m3 × Vec Ideal S256x40 .i8 × Vec Ideal S256x5120 .fp8e4m3 × Vec Ideal S256x160 .i8 × Vec Ideal S256x1280 .f32 × Vec Ideal S256x1280 .bf16 × Vec Ideal S1280x1280 .bf16 × Vec Ideal S1280x5120 .bf16 × Vec Ideal S5120x1280 .bf16) (D : Dat) : Prop :=
  (∀ (r : Fin 256) (q : Fin 1280), o.1 (ix2 r q) = D.c2 r.val q.val) ∧ (∀ (r : Fin 256) (q : Fin 40), o.2.1 (ix2 r q) = D.s2 r.val q.val) ∧
  (∀ (r : Fin 256) (q : Fin 5120), o.2.2.1 (ix2 r q) = D.ca r.val q.val) ∧ (∀ (r : Fin 256) (q : Fin 160), o.2.2.2.1 (ix2 r q) = D.sa r.val q.val) ∧
  (∀ (r : Fin 256) (q : Fin 1280), o.2.2.2.2.1 (ix2 r q) = D.h2 r.val q.val) ∧ (∀ (r : Fin 256) (q : Fin 1280), o.2.2.2.2.2.1 (ix2 r q) = D.h2 r.val q.val) ∧
  (∀ (r : Fin 1280) (q : Fin 1280), o.2.2.2.2.2.2.1 (ix2 r q) = D.wo r.val q.val) ∧ (∀ (r : Fin 1280) (q : Fin 5120), o.2.2.2.2.2.2.2.1 (ix2 r q) = D.w1 r.val q.val) ∧
  (∀ (r : Fin 5120) (q : Fin 1280), o.2.2.2.2.2.2.2.2 (ix2 r q) = D.w2 r.val q.val)

/-- One store over the whole buffer leaves what was stored. -/
theorem canon_s2 (w : Vec Ideal S256x40 .i8) (r : Fin 256) (q : Fin 40) :
    View.canon (Val := Elt Ideal) [⟨Rect.unit (s := S256x40) ![0, 0] S256x40.size inb_S256x40_S256x40_0_0, w⟩] (ix2 r q) = w (ix2 r q) :=
  congrFun (Idealize.ShloMosaic.View.canon_unit_zero (Val := Elt Ideal) (off := ![0, 0]) (by decide) inb_S256x40_S256x40_0_0 w) (ix2 r q)
/-- One store over the whole buffer leaves what was stored. -/
theorem canon_sa (w : Vec Ideal S256x160 .i8) (r : Fin 256) (q : Fin 160) :
    View.canon (Val := Elt Ideal) [⟨Rect.unit (s := S256x160) ![0, 0] S256x160.size inb_S256x160_S256x160_0_0, w⟩] (ix2 r q) = w (ix2 r q) :=
  congrFun (Idealize.ShloMosaic.View.canon_unit_zero (Val := Elt Ideal) (off := ![0, 0]) (by decide) inb_S256x160_S256x160_0_0 w) (ix2 r q)
end Mx
-- ==== Proof.OutA.lean ====
/- What the body stores at a point of case A, of what its inputs hold. -/
module

public import proofs.«01_k».proof.Proof.Stage
public import proofs.«01_k».proof.Proof.Decode
public import proofs.«01_k».proof.Proof.RunsA
public import proofs.«01_k».proof.Proof.Good

@[expose] public section
set_option maxRecDepth 16384
set_option maxHeartbeats 2000000
noncomputable section
namespace Mx
open Idealize.ShloMosaic Idealize.ShloMosaic.TcCoe Idealize.ShloMosaic.Tactic Cert.KernelIdeal Cert.KernelIdeal.Gen

/-- The body of case A reads what `D` says. -/
theorem insA_ok (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32)
    (D : Dat) (h0 : ∀ (r : Fin 256) (k : Fin 1280), x0 (ix2 r k) = D.aw r.val k.val) (h1 : ∀ (r : Fin 256) (k : Fin 1280), x1 (ix2 r k) = D.x r.val k.val)
    (h4 : ∀ k : Fin 1280, x4 (ix2 0 k) = D.bo k.val) (h5 : ∀ k : Fin 1280, x5 (ix2 0 k) = D.g k.val) (h6 : ∀ k : Fin 1280, x6 (ix2 0 k) = D.b k.val)
    (h9 : ∀ k : Fin 5120, x9 (ix2 0 k) = D.b1 k.val) (h12 : ∀ k : Fin 1280, x12 (ix2 0 k) = D.b2 k.val)
    (hs0 : ∀ (r : Fin 1280) (q : Fin 1280), (if h : q.val < 640 then nv (lo8 (x2 (ix2 r ⟨q.val, h⟩))) else nv (hi8 (x2 (ix2 r ⟨q.val - 640, by omega⟩)))) * x3 (ix2 ⟨r.val / 32, by omega⟩ q) = D.wo r.val q.val)
    (hs1 : ∀ (r : Fin 1280) (q : Fin 5120), (if h : q.val < 2560 then nv (lo8 (x7 (ix2 r ⟨q.val, h⟩))) else nv (hi8 (x7 (ix2 r ⟨q.val - 2560, by omega⟩)))) * x8 (ix2 ⟨r.val / 32, by omega⟩ q) = D.w1 r.val q.val)
    (hs2 : ∀ (r : Fin 5120) (q : Fin 1280), (if h : q.val < 640 then nv (lo8 (x10 (ix2 r ⟨q.val, h⟩))) else nv (hi8 (x10 (ix2 r ⟨q.val - 640, by omega⟩)))) * x11 (ix2 ⟨r.val / 32, by omega⟩ q) = D.w2 r.val q.val)
    : (insA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).Ok D where
  aw := fun r k => (readAt_col _ _ _ _ _ _ r k).trans ((h0 _ _).trans (congrArg (D.aw r.val) (Nat.zero_add _)))
  x := fun k hk r j => (readAt_col _ _ _ _ _ _ r j).trans (h1 r ⟨256 * k + j.val, by omega⟩)
  wo := fun k hk p j => (readCov_col _ _ _ _ _ p j).trans ((pb1_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x2 x3 p ⟨256 * k + j.val, by omega⟩).trans (hs0 p ⟨256 * k + j.val, by omega⟩))
  bo := fun k hk j => (readAt_col _ _ _ _ _ _ 0 j).trans (h4 ⟨256 * k + j.val, by omega⟩)
  g := fun c => (readAt_col _ _ _ _ _ _ 0 c).trans ((h5 _).trans (congrArg D.g (Nat.zero_add _)))
  b := fun c => (readAt_col _ _ _ _ _ _ 0 c).trans ((h6 _).trans (congrArg D.b (Nat.zero_add _)))
  w1 := fun k hk p j => (readCov_col _ _ _ _ _ p j).trans ((pb2_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x7 x8 p ⟨256 * k + j.val, by omega⟩).trans (hs1 p ⟨256 * k + j.val, by omega⟩))
  b1 := fun k hk j => (readAt_col _ _ _ _ _ _ 0 j).trans (h9 ⟨256 * k + j.val, by omega⟩)
  w2 := fun k hk p j => (readCov_col _ _ _ _ _ p j).trans ((pb3_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x10 x11 p ⟨256 * k + j.val, by omega⟩).trans (hs2 p ⟨256 * k + j.val, by omega⟩))
  b2 := fun k hk j => (readAt_col _ _ _ _ _ _ 0 j).trans (h12 ⟨256 * k + j.val, by omega⟩)

/-- Output window 13 at a point of case A. -/
theorem outA_c2 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32)
    (D : Dat) (H : (insA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).Ok D) (r : Fin 256) (q : Fin 1280) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix2 r q) = D.c2 r.val q.val := by
  unfold out0_A_13
  rw [View.read_writes_eq_canon _ _ _ (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12), runA_c2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12]
  exact Ins.c2L_canon H r q

/-- Output window 14 at a point of case A. -/
theorem outA_s2 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32)
    (D : Dat) (H : (insA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).Ok D) (r : Fin 256) (q : Fin 40) :
    out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix2 r q) = D.s2 r.val q.val := by
  unfold out0_A_14
  rw [View.read_writes_eq_canon _ _ _ (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12), runA_s2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12]
  exact (canon_s2 _ r q).trans (Ins.s2_apply H r q)

/-- Output window 15 at a point of case A. -/
theorem outA_ca (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32)
    (D : Dat) (H : (insA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).Ok D) (r : Fin 256) (q : Fin 5120) :
    out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix2 r q) = D.ca r.val q.val := by
  unfold out0_A_15
  rw [View.read_writes_eq_canon _ _ _ (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12), runA_ca c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12]
  exact Ins.caL_canon H r q

/-- Output window 16 at a point of case A. -/
theorem outA_sa (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32)
    (D : Dat) (H : (insA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).Ok D) (r : Fin 256) (q : Fin 160) :
    out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix2 r q) = D.sa r.val q.val := by
  unfold out0_A_16
  rw [View.read_writes_eq_canon _ _ _ (cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12), runA_sa c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12]
  exact (canon_sa _ r q).trans (Ins.sa_apply H r q)

/-- Output window 17 at a point of case A. -/
theorem outA_h2 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32)
    (D : Dat) (H : (insA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).Ok D) (r : Fin 256) (q : Fin 1280) :
    out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix2 r q) = D.h2 r.val q.val := by
  unfold out0_A_17
  rw [View.read_writes_eq_canon _ _ _ (cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12), runA_h2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12]
  exact Ins.h2L_canon H r q

/-- Output window 18 at a point of case A. -/
theorem outA_h2b (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32)
    (D : Dat) (H : (insA c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12).Ok D) (r : Fin 256) (q : Fin 1280) :
    out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix2 r q) = D.h2 r.val q.val := by
  unfold out0_A_18
  rw [View.read_writes_eq_canon _ _ _ (cover0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12), runA_h2b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12]
  exact Ins.h2bL_canon H r q

/-- The decoded weights 0 after the first point. -/
theorem scr_0 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32)
    (D : Dat) (h0 : ∀ (r : Fin 256) (k : Fin 1280), x0 (ix2 r k) = D.aw r.val k.val) (h1 : ∀ (r : Fin 256) (k : Fin 1280), x1 (ix2 r k) = D.x r.val k.val)
    (h4 : ∀ k : Fin 1280, x4 (ix2 0 k) = D.bo k.val) (h5 : ∀ k : Fin 1280, x5 (ix2 0 k) = D.g k.val) (h6 : ∀ k : Fin 1280, x6 (ix2 0 k) = D.b k.val)
    (h9 : ∀ k : Fin 5120, x9 (ix2 0 k) = D.b1 k.val) (h12 : ∀ k : Fin 1280, x12 (ix2 0 k) = D.b2 k.val)
    (hs0 : ∀ (r : Fin 1280) (q : Fin 1280), (if h : q.val < 640 then nv (lo8 (x2 (ix2 r ⟨q.val, h⟩))) else nv (hi8 (x2 (ix2 r ⟨q.val - 640, by omega⟩)))) * x3 (ix2 ⟨r.val / 32, by omega⟩ q) = D.wo r.val q.val)
    (hs1 : ∀ (r : Fin 1280) (q : Fin 5120), (if h : q.val < 2560 then nv (lo8 (x7 (ix2 r ⟨q.val, h⟩))) else nv (hi8 (x7 (ix2 r ⟨q.val - 2560, by omega⟩)))) * x8 (ix2 ⟨r.val / 32, by omega⟩ q) = D.w1 r.val q.val)
    (hs2 : ∀ (r : Fin 5120) (q : Fin 1280), (if h : q.val < 640 then nv (lo8 (x10 (ix2 r ⟨q.val, h⟩))) else nv (hi8 (x10 (ix2 r ⟨q.val - 640, by omega⟩)))) * x11 (ix2 ⟨r.val / 32, by omega⟩ q) = D.w2 r.val q.val)
    (r : Fin 1280) (q : Fin 1280) :
    sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix2 r q) = D.wo r.val q.val := by
  unfold sout0_A_0
  rw [View.read_writes_eq_canon _ _ _ (scover0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12)]
  exact (pb1_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x2 x3 r q).trans (hs0 r q)

/-- The decoded weights 1 after the first point. -/
theorem scr_1 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32)
    (D : Dat) (h0 : ∀ (r : Fin 256) (k : Fin 1280), x0 (ix2 r k) = D.aw r.val k.val) (h1 : ∀ (r : Fin 256) (k : Fin 1280), x1 (ix2 r k) = D.x r.val k.val)
    (h4 : ∀ k : Fin 1280, x4 (ix2 0 k) = D.bo k.val) (h5 : ∀ k : Fin 1280, x5 (ix2 0 k) = D.g k.val) (h6 : ∀ k : Fin 1280, x6 (ix2 0 k) = D.b k.val)
    (h9 : ∀ k : Fin 5120, x9 (ix2 0 k) = D.b1 k.val) (h12 : ∀ k : Fin 1280, x12 (ix2 0 k) = D.b2 k.val)
    (hs0 : ∀ (r : Fin 1280) (q : Fin 1280), (if h : q.val < 640 then nv (lo8 (x2 (ix2 r ⟨q.val, h⟩))) else nv (hi8 (x2 (ix2 r ⟨q.val - 640, by omega⟩)))) * x3 (ix2 ⟨r.val / 32, by omega⟩ q) = D.wo r.val q.val)
    (hs1 : ∀ (r : Fin 1280) (q : Fin 5120), (if h : q.val < 2560 then nv (lo8 (x7 (ix2 r ⟨q.val, h⟩))) else nv (hi8 (x7 (ix2 r ⟨q.val - 2560, by omega⟩)))) * x8 (ix2 ⟨r.val / 32, by omega⟩ q) = D.w1 r.val q.val)
    (hs2 : ∀ (r : Fin 5120) (q : Fin 1280), (if h : q.val < 640 then nv (lo8 (x10 (ix2 r ⟨q.val, h⟩))) else nv (hi8 (x10 (ix2 r ⟨q.val - 640, by omega⟩)))) * x11 (ix2 ⟨r.val / 32, by omega⟩ q) = D.w2 r.val q.val)
    (r : Fin 1280) (q : Fin 5120) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix2 r q) = D.w1 r.val q.val := by
  unfold sout0_A_1
  rw [View.read_writes_eq_canon _ _ _ (scover0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12)]
  exact (pb2_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x7 x8 r q).trans (hs1 r q)

/-- The decoded weights 2 after the first point. -/
theorem scr_2 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32)
    (D : Dat) (h0 : ∀ (r : Fin 256) (k : Fin 1280), x0 (ix2 r k) = D.aw r.val k.val) (h1 : ∀ (r : Fin 256) (k : Fin 1280), x1 (ix2 r k) = D.x r.val k.val)
    (h4 : ∀ k : Fin 1280, x4 (ix2 0 k) = D.bo k.val) (h5 : ∀ k : Fin 1280, x5 (ix2 0 k) = D.g k.val) (h6 : ∀ k : Fin 1280, x6 (ix2 0 k) = D.b k.val)
    (h9 : ∀ k : Fin 5120, x9 (ix2 0 k) = D.b1 k.val) (h12 : ∀ k : Fin 1280, x12 (ix2 0 k) = D.b2 k.val)
    (hs0 : ∀ (r : Fin 1280) (q : Fin 1280), (if h : q.val < 640 then nv (lo8 (x2 (ix2 r ⟨q.val, h⟩))) else nv (hi8 (x2 (ix2 r ⟨q.val - 640, by omega⟩)))) * x3 (ix2 ⟨r.val / 32, by omega⟩ q) = D.wo r.val q.val)
    (hs1 : ∀ (r : Fin 1280) (q : Fin 5120), (if h : q.val < 2560 then nv (lo8 (x7 (ix2 r ⟨q.val, h⟩))) else nv (hi8 (x7 (ix2 r ⟨q.val - 2560, by omega⟩)))) * x8 (ix2 ⟨r.val / 32, by omega⟩ q) = D.w1 r.val q.val)
    (hs2 : ∀ (r : Fin 5120) (q : Fin 1280), (if h : q.val < 640 then nv (lo8 (x10 (ix2 r ⟨q.val, h⟩))) else nv (hi8 (x10 (ix2 r ⟨q.val - 640, by omega⟩)))) * x11 (ix2 ⟨r.val / 32, by omega⟩ q) = D.w2 r.val q.val)
    (r : Fin 5120) (q : Fin 1280) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 (ix2 r q) = D.w2 r.val q.val := by
  unfold sout0_A_2
  rw [View.read_writes_eq_canon _ _ _ (scover0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12)]
  exact (pb3_canon c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x10 x11 r q).trans (hs2 r q)

/-- The buffers the point of case A leaves are the program's rows. -/
theorem outA_good (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32)
    (D : Dat) (h0 : ∀ (r : Fin 256) (k : Fin 1280), x0 (ix2 r k) = D.aw r.val k.val) (h1 : ∀ (r : Fin 256) (k : Fin 1280), x1 (ix2 r k) = D.x r.val k.val)
    (h4 : ∀ k : Fin 1280, x4 (ix2 0 k) = D.bo k.val) (h5 : ∀ k : Fin 1280, x5 (ix2 0 k) = D.g k.val) (h6 : ∀ k : Fin 1280, x6 (ix2 0 k) = D.b k.val)
    (h9 : ∀ k : Fin 5120, x9 (ix2 0 k) = D.b1 k.val) (h12 : ∀ k : Fin 1280, x12 (ix2 0 k) = D.b2 k.val)
    (hs0 : ∀ (r : Fin 1280) (q : Fin 1280), (if h : q.val < 640 then nv (lo8 (x2 (ix2 r ⟨q.val, h⟩))) else nv (hi8 (x2 (ix2 r ⟨q.val - 640, by omega⟩)))) * x3 (ix2 ⟨r.val / 32, by omega⟩ q) = D.wo r.val q.val)
    (hs1 : ∀ (r : Fin 1280) (q : Fin 5120), (if h : q.val < 2560 then nv (lo8 (x7 (ix2 r ⟨q.val, h⟩))) else nv (hi8 (x7 (ix2 r ⟨q.val - 2560, by omega⟩)))) * x8 (ix2 ⟨r.val / 32, by omega⟩ q) = D.w1 r.val q.val)
    (hs2 : ∀ (r : Fin 5120) (q : Fin 1280), (if h : q.val < 640 then nv (lo8 (x10 (ix2 r ⟨q.val, h⟩))) else nv (hi8 (x10 (ix2 r ⟨q.val - 640, by omega⟩)))) * x11 (ix2 ⟨r.val / 32, by omega⟩ q) = D.w2 r.val q.val)
    : Good (out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12,
      out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12,
      out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12,
      out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12,
      out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12,
      out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12,
      sout0_A_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12,
      sout0_A_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12,
      sout0_A_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12) D :=
  have H := insA_ok c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 D h0 h1 h4 h5 h6 h9 h12 hs0 hs1 hs2
  ⟨outA_c2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 D H, outA_s2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 D H, outA_ca c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 D H, outA_sa c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 D H, outA_h2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 D H, outA_h2b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 D H, scr_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 D h0 h1 h4 h5 h6 h9 h12 hs0 hs1 hs2, scr_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 D h0 h1 h4 h5 h6 h9 h12 hs0 hs1 hs2, scr_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 D h0 h1 h4 h5 h6 h9 h12 hs0 hs1 hs2⟩

end Mx
-- ==== Proof.InsB.lean ====
/- What the body reads in case B. -/
module

public import proofs.«01_k».proof.Proof.KBody

@[expose] public section
set_option maxRecDepth 16384
noncomputable section
namespace Mx
open Idealize.ShloMosaic Idealize.ShloMosaic.TcCoe Idealize.ShloMosaic.Tactic Cert.KernelIdeal Cert.KernelIdeal.Gen
/-- What the body reads in case B. -/
def insB (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16) : Ins where
  aw := arg1.view.readAt (Elt Ideal) (colR 256 1280 0 1280 (by decide)) (harg1.unread x0)
  x := fun k hk => arg2.view.readAt (Elt Ideal) (colR 256 1280 (256 * k) 256 (by omega)) (harg2.unread x1)
  wo := fun k hk => arg20.view.readAt (Elt Ideal) (colR 1280 1280 (256 * k) 256 (by omega)) (harg20.unread xs0)
  bo := fun k hk => arg5.view.readAt (Elt Ideal) (colR 1 1280 (256 * k) 256 (by omega)) (harg5.unread x4)
  g := arg6.view.readAt (Elt Ideal) (colR 1 1280 0 1280 (by decide)) (harg6.unread x5)
  b := arg7.view.readAt (Elt Ideal) (colR 1 1280 0 1280 (by decide)) (harg7.unread x6)
  w1 := fun k hk => arg21.view.readAt (Elt Ideal) (colR 1280 5120 (256 * k) 256 (by omega)) (harg21.unread xs1)
  b1 := fun k hk => arg10.view.readAt (Elt Ideal) (colR 1 5120 (256 * k) 256 (by omega)) (harg10.unread x9)
  w2 := fun k hk => arg22.view.readAt (Elt Ideal) (colR 5120 1280 (256 * k) 256 (by omega)) (harg22.unread xs2)
  b2 := fun k hk => arg13.view.readAt (Elt Ideal) (colR 1 1280 (256 * k) 256 (by omega)) (harg13.unread x12)
  m3 := arg23
  m4 := arg24
  m5 := arg25
  m6 := arg26
  m7 := arg27

end Mx
-- ==== Proof.RunsB.lean ====
/- The stores of case B into each output. -/
module

public import proofs.«01_k».proof.Proof.InsB

@[expose] public section
set_option maxRecDepth 16384
noncomputable section
namespace Mx
open Idealize.ShloMosaic Idealize.ShloMosaic.TcCoe Idealize.ShloMosaic.Tactic Cert.KernelIdeal Cert.KernelIdeal.Gen
/-- The stores of case B into the output of the first codes. -/
theorem runB_c2 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).1 = (insB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).c2L := by
  sl_kernel_rfl

/-- The stores of case B into the output of the first scale bytes. -/
theorem runB_s2 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).2.1 = [⟨Rect.unit (s := S256x40) ![0, 0] S256x40.size inb_S256x40_S256x40_0_0, (insB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).s2⟩] := by
  sl_kernel_rfl

/-- The stores of case B into the output of the second codes. -/
theorem runB_ca (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).2.2.1 = (insB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).caL := by
  sl_kernel_rfl

/-- The stores of case B into the output of the second scale bytes. -/
theorem runB_sa (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).2.2.2.1 = [⟨Rect.unit (s := S256x160) ![0, 0] S256x160.size inb_S256x160_S256x160_0_0, (insB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).sa⟩] := by
  sl_kernel_rfl

/-- The stores of case B into the output of the second residual stream. -/
theorem runB_h2 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).2.2.2.2.1 = (insB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).h2L := by
  sl_kernel_rfl

/-- The stores of case B into the output of its rounded copy. -/
theorem runB_h2b (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).2.2.2.2.2.1 = (insB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).h2bL := by
  sl_kernel_rfl

end Mx
-- ==== Proof.OutB.lean ====
/- What the body stores at a point of case B, of what its inputs hold. -/
module

public import proofs.«01_k».proof.Proof.Stage
public import proofs.«01_k».proof.Proof.Decode
public import proofs.«01_k».proof.Proof.RunsB
public import proofs.«01_k».proof.Proof.Good

@[expose] public section
set_option maxRecDepth 16384
set_option maxHeartbeats 2000000
noncomputable section
namespace Mx
open Idealize.ShloMosaic Idealize.ShloMosaic.TcCoe Idealize.ShloMosaic.Tactic Cert.KernelIdeal Cert.KernelIdeal.Gen

/-- The body of case B reads what `D` says. -/
theorem insB_ok (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16)
    (D : Dat) (h0 : ∀ (r : Fin 256) (k : Fin 1280), x0 (ix2 r k) = D.aw r.val k.val) (h1 : ∀ (r : Fin 256) (k : Fin 1280), x1 (ix2 r k) = D.x r.val k.val)
    (h4 : ∀ k : Fin 1280, x4 (ix2 0 k) = D.bo k.val) (h5 : ∀ k : Fin 1280, x5 (ix2 0 k) = D.g k.val) (h6 : ∀ k : Fin 1280, x6 (ix2 0 k) = D.b k.val)
    (h9 : ∀ k : Fin 5120, x9 (ix2 0 k) = D.b1 k.val) (h12 : ∀ k : Fin 1280, x12 (ix2 0 k) = D.b2 k.val)
    (hs0 : ∀ (r : Fin 1280) (q : Fin 1280), xs0 (ix2 r q) = D.wo r.val q.val)
    (hs1 : ∀ (r : Fin 1280) (q : Fin 5120), xs1 (ix2 r q) = D.w1 r.val q.val)
    (hs2 : ∀ (r : Fin 5120) (q : Fin 1280), xs2 (ix2 r q) = D.w2 r.val q.val)
    : (insB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).Ok D where
  aw := fun r k => (readAt_col _ _ _ _ _ _ r k).trans ((h0 _ _).trans (congrArg (D.aw r.val) (Nat.zero_add _)))
  x := fun k hk r j => (readAt_col _ _ _ _ _ _ r j).trans (h1 r ⟨256 * k + j.val, by omega⟩)
  wo := fun k hk p j => (readAt_col _ _ _ _ _ _ p j).trans (hs0 p ⟨256 * k + j.val, by omega⟩)
  bo := fun k hk j => (readAt_col _ _ _ _ _ _ 0 j).trans (h4 ⟨256 * k + j.val, by omega⟩)
  g := fun c => (readAt_col _ _ _ _ _ _ 0 c).trans ((h5 _).trans (congrArg D.g (Nat.zero_add _)))
  b := fun c => (readAt_col _ _ _ _ _ _ 0 c).trans ((h6 _).trans (congrArg D.b (Nat.zero_add _)))
  w1 := fun k hk p j => (readAt_col _ _ _ _ _ _ p j).trans (hs1 p ⟨256 * k + j.val, by omega⟩)
  b1 := fun k hk j => (readAt_col _ _ _ _ _ _ 0 j).trans (h9 ⟨256 * k + j.val, by omega⟩)
  w2 := fun k hk p j => (readAt_col _ _ _ _ _ _ p j).trans (hs2 p ⟨256 * k + j.val, by omega⟩)
  b2 := fun k hk j => (readAt_col _ _ _ _ _ _ 0 j).trans (h12 ⟨256 * k + j.val, by omega⟩)

/-- Output window 13 at a point of case B. -/
theorem outB_c2 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16)
    (D : Dat) (H : (insB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).Ok D) (r : Fin 256) (q : Fin 1280) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2 (ix2 r q) = D.c2 r.val q.val := by
  unfold out0_B_13
  rw [View.read_writes_eq_canon _ _ _ (cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2), runB_c2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2]
  exact Ins.c2L_canon H r q

/-- Output window 14 at a point of case B. -/
theorem outB_s2 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16)
    (D : Dat) (H : (insB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).Ok D) (r : Fin 256) (q : Fin 40) :
    out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2 (ix2 r q) = D.s2 r.val q.val := by
  unfold out0_B_14
  rw [View.read_writes_eq_canon _ _ _ (cover0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2), runB_s2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2]
  exact (canon_s2 _ r q).trans (Ins.s2_apply H r q)

/-- Output window 15 at a point of case B. -/
theorem outB_ca (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16)
    (D : Dat) (H : (insB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).Ok D) (r : Fin 256) (q : Fin 5120) :
    out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2 (ix2 r q) = D.ca r.val q.val := by
  unfold out0_B_15
  rw [View.read_writes_eq_canon _ _ _ (cover0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2), runB_ca c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2]
  exact Ins.caL_canon H r q

/-- Output window 16 at a point of case B. -/
theorem outB_sa (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16)
    (D : Dat) (H : (insB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).Ok D) (r : Fin 256) (q : Fin 160) :
    out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2 (ix2 r q) = D.sa r.val q.val := by
  unfold out0_B_16
  rw [View.read_writes_eq_canon _ _ _ (cover0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2), runB_sa c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2]
  exact (canon_sa _ r q).trans (Ins.sa_apply H r q)

/-- Output window 17 at a point of case B. -/
theorem outB_h2 (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16)
    (D : Dat) (H : (insB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).Ok D) (r : Fin 256) (q : Fin 1280) :
    out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2 (ix2 r q) = D.h2 r.val q.val := by
  unfold out0_B_17
  rw [View.read_writes_eq_canon _ _ _ (cover0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2), runB_h2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2]
  exact Ins.h2L_canon H r q

/-- Output window 18 at a point of case B. -/
theorem outB_h2b (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16)
    (D : Dat) (H : (insB c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2).Ok D) (r : Fin 256) (q : Fin 1280) :
    out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2 (ix2 r q) = D.h2 r.val q.val := by
  unfold out0_B_18
  rw [View.read_writes_eq_canon _ _ _ (cover0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2), runB_h2b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2]
  exact Ins.h2bL_canon H r q

/-- The buffers the point of case B leaves are the program's rows. -/
theorem outB_good (c : Dev nD) (i : grid0.Coords) (arg1 : Memref sig .tc .vmem S256x1280 .bf16) (harg1 : arg1.IsWhole) (arg2 : Memref sig .tc .vmem S256x1280 .bf16) (harg2 : arg2.IsWhole) (arg3 : Memref sig .tc .vmem S1280x640 .i8) (harg3 : arg3.IsWhole) (arg4 : Memref sig .tc .vmem S40x1280 .f32) (harg4 : arg4.IsWhole) (arg5 : Memref sig .tc .vmem S1x1280 .f32) (harg5 : arg5.IsWhole) (arg6 : Memref sig .tc .vmem S1x1280 .f32) (harg6 : arg6.IsWhole) (arg7 : Memref sig .tc .vmem S1x1280 .f32) (harg7 : arg7.IsWhole) (arg8 : Memref sig .tc .vmem S1280x2560 .i8) (harg8 : arg8.IsWhole) (arg9 : Memref sig .tc .vmem S40x5120 .f32) (harg9 : arg9.IsWhole) (arg10 : Memref sig .tc .vmem S1x5120 .f32) (harg10 : arg10.IsWhole) (arg11 : Memref sig .tc .vmem S5120x640 .i8) (harg11 : arg11.IsWhole) (arg12 : Memref sig .tc .vmem S160x1280 .f32) (harg12 : arg12.IsWhole) (arg13 : Memref sig .tc .vmem S1x1280 .f32) (harg13 : arg13.IsWhole) (arg14 : Memref sig .tc .vmem S256x1280 .fp8e4m3) (harg14 : arg14.IsWhole) (arg15 : Memref sig .tc .vmem S256x40 .i8) (harg15 : arg15.IsWhole) (arg16 : Memref sig .tc .vmem S256x5120 .fp8e4m3) (harg16 : arg16.IsWhole) (arg17 : Memref sig .tc .vmem S256x160 .i8) (harg17 : arg17.IsWhole) (arg18 : Memref sig .tc .vmem S256x1280 .f32) (harg18 : arg18.IsWhole) (arg19 : Memref sig .tc .vmem S256x1280 .bf16) (harg19 : arg19.IsWhole) (arg20 : Memref sig .tc .vmem S1280x1280 .bf16) (harg20 : arg20.IsWhole) (arg21 : Memref sig .tc .vmem S1280x5120 .bf16) (harg21 : arg21.IsWhole) (arg22 : Memref sig .tc .vmem S5120x1280 .bf16) (harg22 : arg22.IsWhole) (arg23 : Memref sig .tc .vmem S256x1280 .bf16) (harg23 : arg23.IsWhole) (arg24 : Memref sig .tc .vmem S256x5120 .bf16) (harg24 : arg24.IsWhole) (arg25 : Memref sig .tc .vmem S256x1280 .f32) (harg25 : arg25.IsWhole) (arg26 : Memref sig .tc .vmem S128x256 .i32) (harg26 : arg26.IsWhole) (arg27 : Memref sig .tc .vmem S256x256 .i32) (harg27 : arg27.IsWhole) (hc0 : ¬cond0_0 i)
    (x0 : Vec Ideal S256x1280 .bf16) (x1 : Vec Ideal S256x1280 .bf16) (x2 : Vec Ideal S1280x640 .i8) (x3 : Vec Ideal S40x1280 .f32) (x4 : Vec Ideal S1x1280 .f32) (x5 : Vec Ideal S1x1280 .f32) (x6 : Vec Ideal S1x1280 .f32) (x7 : Vec Ideal S1280x2560 .i8) (x8 : Vec Ideal S40x5120 .f32) (x9 : Vec Ideal S1x5120 .f32) (x10 : Vec Ideal S5120x640 .i8) (x11 : Vec Ideal S160x1280 .f32) (x12 : Vec Ideal S1x1280 .f32) (xs0 : Vec Ideal S1280x1280 .bf16) (xs1 : Vec Ideal S1280x5120 .bf16) (xs2 : Vec Ideal S5120x1280 .bf16)
    (D : Dat) (h0 : ∀ (r : Fin 256) (k : Fin 1280), x0 (ix2 r k) = D.aw r.val k.val) (h1 : ∀ (r : Fin 256) (k : Fin 1280), x1 (ix2 r k) = D.x r.val k.val)
    (h4 : ∀ k : Fin 1280, x4 (ix2 0 k) = D.bo k.val) (h5 : ∀ k : Fin 1280, x5 (ix2 0 k) = D.g k.val) (h6 : ∀ k : Fin 1280, x6 (ix2 0 k) = D.b k.val)
    (h9 : ∀ k : Fin 5120, x9 (ix2 0 k) = D.b1 k.val) (h12 : ∀ k : Fin 1280, x12 (ix2 0 k) = D.b2 k.val)
    (hs0 : ∀ (r : Fin 1280) (q : Fin 1280), xs0 (ix2 r q) = D.wo r.val q.val)
    (hs1 : ∀ (r : Fin 1280) (q : Fin 5120), xs1 (ix2 r q) = D.w1 r.val q.val)
    (hs2 : ∀ (r : Fin 5120) (q : Fin 1280), xs2 (ix2 r q) = D.w2 r.val q.val)
    : Good (out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2,
      out0_B_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2,
      out0_B_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2,
      out0_B_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2,
      out0_B_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2,
      out0_B_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2,
      sout0_B_0 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2,
      sout0_B_1 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2,
      sout0_B_2 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2) D :=
  have H := insB_ok c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2 D h0 h1 h4 h5 h6 h9 h12 hs0 hs1 hs2
  ⟨outB_c2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2 D H, outB_s2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2 D H, outB_ca c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2 D H, outB_sa c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2 D H, outB_h2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2 D H, outB_h2b c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 hc0 x0 x1 x2 x3 x4 x5 x6 x7 x8 x9 x10 x11 x12 xs0 xs1 xs2 D H, hs0, hs1, hs2⟩

end Mx
-- ==== Proof.Data.lean ====
/- The program's inputs as rows and columns. -/
module

public import proofs.«01_k».proof.Proof.Spec
public import proofs.«01_k».proof.Proof.Bytes

@[expose] public section
noncomputable section
namespace Mx
open Idealize.ShloMosaic

/-- An array read at a row and a column. -/
def at2 {α : Type} [Inhabited α] {R C : ℕ} (A : (⟨2, ![R, C]⟩ : Shape).Idx → α) (r c : ℕ) : α := if h : r < R ∧ c < C then A (ix2 ⟨r, h.1⟩ ⟨c, h.2⟩) else default
/-- A list of numbers read at a position. -/
def at1 {α : Type} [Inhabited α] {C : ℕ} (A : (⟨1, ![C]⟩ : Shape).Idx → α) (c : ℕ) : α := if h : c < C then A (ix1 ⟨c, h⟩) else default

/-- Within the bounds, the entry. -/
theorem at2_eq {α : Type} [Inhabited α] {R C : ℕ} (A : (⟨2, ![R, C]⟩ : Shape).Idx → α) {r c : ℕ} (hr : r < R) (hc : c < C) : at2 A r c = A (ix2 ⟨r, hr⟩ ⟨c, hc⟩) := dif_pos ⟨hr, hc⟩
/-- Within the bounds, the entry. -/
theorem at1_eq {α : Type} [Inhabited α] {C : ℕ} (A : (⟨1, ![C]⟩ : Shape).Idx → α) {c : ℕ} (hc : c < C) : at1 A c = A (ix1 ⟨c, hc⟩) := dif_pos hc

/-- The thirteen inputs as numbers by row and column, the weights dense. -/
def mkDat (A0 A1 : (⟨2, ![24064, 1280]⟩ : Shape).Idx → EReal) (A2 : (⟨2, ![1280, 640]⟩ : Shape).Idx → BitVec 8) (A3 : (⟨2, ![40, 1280]⟩ : Shape).Idx → BitVec 8)
    (A4 A5 A6 : (⟨1, ![1280]⟩ : Shape).Idx → EReal) (A7 : (⟨2, ![1280, 2560]⟩ : Shape).Idx → BitVec 8) (A8 : (⟨2, ![40, 5120]⟩ : Shape).Idx → BitVec 8) (A9 : (⟨1, ![5120]⟩ : Shape).Idx → EReal)
    (A10 : (⟨2, ![5120, 640]⟩ : Shape).Idx → BitVec 8) (A11 : (⟨2, ![160, 1280]⟩ : Shape).Idx → BitVec 8) (A12 : (⟨1, ![1280]⟩ : Shape).Idx → EReal) : Dat where
  aw := at2 A0
  x := at2 A1
  wo := dense 640 (at2 A2) (at2 A3)
  bo := at1 A4
  g := at1 A5
  b := at1 A6
  w1 := dense 2560 (at2 A7) (at2 A8)
  b1 := at1 A9
  w2 := dense 640 (at2 A10) (at2 A11)
  b2 := at1 A12

/-- The same inputs with the rows counted from `s`. -/
def Dat.shift (D : Dat) (s : ℕ) : Dat := { D with aw := fun r => D.aw (s + r), x := fun r => D.x (s + r) }
/-- Shifting the data by `s` rows shifts the 1280-wide codes by `s` rows. -/
theorem Dat.shift_c2 (D : Dat) (s r c : ℕ) : (D.shift s).c2 r c = D.c2 (s + r) c := rfl
/-- Shifting the data by `s` rows shifts the 5120-wide codes by `s` rows. -/
theorem Dat.shift_ca (D : Dat) (s r c : ℕ) : (D.shift s).ca r c = D.ca (s + r) c := rfl
/-- Shifting the data by `s` rows shifts the residual stream by `s` rows. -/
theorem Dat.shift_h2 (D : Dat) (s r c : ℕ) : (D.shift s).h2 r c = D.h2 (s + r) c := rfl
/-- Shifting the data by `s` rows shifts the scale bytes of the 1280-wide codes by `s` rows. -/
theorem Dat.shift_s2 (D : Dat) (s r c : ℕ) : (D.shift s).s2 r c = D.s2 (s + r) c := rfl
/-- Shifting the data by `s` rows shifts the scale bytes of the 5120-wide codes by `s` rows. -/
theorem Dat.shift_sa (D : Dat) (s r c : ℕ) : (D.shift s).sa r c = D.sa (s + r) c := rfl
end Mx
-- ==== Proof.Reads.lean ====
/- What the blocks of each input hold at a grid point. -/
module

public import proofs.«01_k».proof.Proof.Data
public import proofs.«01_k».proof.Proof.Gen.KernelIdeal.Frame
public import Idealize.ShloMosaic.Lib.Pipeline.ValueKit

@[expose] public section
set_option maxRecDepth 16384
noncomputable section
namespace Mx
open Idealize.ShloMosaic Idealize.ShloMosaic.TcCoe Cert.KernelIdeal Cert.KernelIdeal.Gen

variable (m : (ℓ : Loc nD τ sig) → Buf (Elt Ideal) ℓ) (c : Dev nD)

/-- Where window 0 lies. -/
theorem wix0 : ∀ t : Fin cfg0.N, win0_0.index t = ![t.val, 0] := (by decide +kernel : ∀ t : Fin grid0.N, _)
/-- Where window 1 lies. -/
theorem wix1 : ∀ t : Fin cfg0.N, win0_1.index t = ![t.val, 0] := (by decide +kernel : ∀ t : Fin grid0.N, _)
/-- Where window 2 lies. -/
theorem wix2 : ∀ t : Fin cfg0.N, win0_2.index t = ![0, 0] := (by decide +kernel : ∀ t : Fin grid0.N, _)
/-- Where window 3 lies. -/
theorem wix3 : ∀ t : Fin cfg0.N, win0_3.index t = ![0, 0] := (by decide +kernel : ∀ t : Fin grid0.N, _)
/-- Where window 4 lies. -/
theorem wix4 : ∀ t : Fin cfg0.N, win0_4.index t = ![0, 0] := (by decide +kernel : ∀ t : Fin grid0.N, _)
/-- Where window 5 lies. -/
theorem wix5 : ∀ t : Fin cfg0.N, win0_5.index t = ![0, 0] := (by decide +kernel : ∀ t : Fin grid0.N, _)
/-- Where window 6 lies. -/
theorem wix6 : ∀ t : Fin cfg0.N, win0_6.index t = ![0, 0] := (by decide +kernel : ∀ t : Fin grid0.N, _)
/-- Where window 7 lies. -/
theorem wix7 : ∀ t : Fin cfg0.N, win0_7.index t = ![0, 0] := (by decide +kernel : ∀ t : Fin grid0.N, _)
/-- Where window 8 lies. -/
theorem wix8 : ∀ t : Fin cfg0.N, win0_8.index t = ![0, 0] := (by decide +kernel : ∀ t : Fin grid0.N, _)
/-- Where window 9 lies. -/
theorem wix9 : ∀ t : Fin cfg0.N, win0_9.index t = ![0, 0] := (by decide +kernel : ∀ t : Fin grid0.N, _)
/-- Where window 10 lies. -/
theorem wix10 : ∀ t : Fin cfg0.N, win0_10.index t = ![0, 0] := (by decide +kernel : ∀ t : Fin grid0.N, _)
/-- Where window 11 lies. -/
theorem wix11 : ∀ t : Fin cfg0.N, win0_11.index t = ![0, 0] := (by decide +kernel : ∀ t : Fin grid0.N, _)
/-- Where window 12 lies. -/
theorem wix12 : ∀ t : Fin cfg0.N, win0_12.index t = ![0, 0] := (by decide +kernel : ∀ t : Fin grid0.N, _)

/-- The rows of a point's blocks lie in the array. -/
theorem lt256 (t : Fin cfg0.N) (r : Fin 256) : 256 * t.val + r.val < 24064 := by
  have h : t.val < 94 := Nat.lt_of_lt_of_eq t.isLt N_0
  omega

/-- A byte placed at a word's exponent. -/
theorem scl_word (b : BitVec 8) : IntOp.shli .host (b.setWidth 32) 23#32 = E b.toNat := by
  have h : IntOp.shli .host (b.setWidth 32) 23#32 = b.setWidth 32 <<< 23 := rfl
  rw [h]
  apply BitVec.eq_of_toNat_eq
  have := b.isLt
  unfold E
  rw [BitVec.toNat_shiftLeft, BitVec.toNat_setWidth, BitVec.toNat_ofNat, Nat.shiftLeft_eq]
  omega

/-- Window 0's block. -/
theorem blk0 (t : Fin cfg0.N) (r : Fin 256) (j : Fin 1280) : (iblk m c 0 t : Vec Ideal S256x1280 .bf16) (ix2 r j) = m (c.tc.loc main_arg0) (ix2 ⟨256 * t.val + r.val, lt256 t r⟩ j) := by
  blk_ext! [iblk, V_main_arg0, wix0 t]

/-- Window 1's block. -/
theorem blk1 (t : Fin cfg0.N) (r : Fin 256) (j : Fin 1280) : (iblk m c 1 t : Vec Ideal S256x1280 .bf16) (ix2 r j) = m (c.tc.loc main_arg1) (ix2 ⟨256 * t.val + r.val, lt256 t r⟩ j) := by
  blk_ext! [iblk, V_main_arg1, wix1 t]

/-- Window 2's block. -/
theorem blk2 (t : Fin cfg0.N) (r : Fin 1280) (j : Fin 640) : (iblk m c 2 t : Vec Ideal S1280x640 .i8) (ix2 r j) = m (c.tc.loc main_arg2) (ix2 r j) := by
  blk_ext! [iblk, V_main_arg2, wix2 t]

/-- Window 7's block. -/
theorem blk7 (t : Fin cfg0.N) (r : Fin 1280) (j : Fin 2560) : (iblk m c 7 t : Vec Ideal S1280x2560 .i8) (ix2 r j) = m (c.tc.loc main_arg7) (ix2 r j) := by
  blk_ext! [iblk, V_main_arg7, wix7 t]

/-- Window 10's block. -/
theorem blk10 (t : Fin cfg0.N) (r : Fin 5120) (j : Fin 640) : (iblk m c 10 t : Vec Ideal S5120x640 .i8) (ix2 r j) = m (c.tc.loc main_arg10) (ix2 r j) := by
  blk_ext! [iblk, V_main_arg10, wix10 t]

/-- Window 3's block: the scales' numbers. -/
theorem blk3 (t : Fin cfg0.N) (r : Fin 40) (j : Fin 1280) : (iblk m c 3 t : Vec Ideal S40x1280 .f32) (ix2 r j) = scl (m (c.tc.loc main_arg3) (ix2 r j)) := by
  blk_simp [iblk, wix3 t]
  entry_read
  rw [show (((View.whole main_v3).slice (win0_3.rect t)).emb (ix2 r j)) = ix2 r j from by blk_ext [wix3 t]]
  exact congrArg (Ideal.ofBits .f32) (scl_word _)

/-- Window 8's block: the scales' numbers. -/
theorem blk8 (t : Fin cfg0.N) (r : Fin 40) (j : Fin 5120) : (iblk m c 8 t : Vec Ideal S40x5120 .f32) (ix2 r j) = scl (m (c.tc.loc main_arg8) (ix2 r j)) := by
  blk_simp [iblk, wix8 t]
  entry_read
  rw [show (((View.whole main_v10).slice (win0_8.rect t)).emb (ix2 r j)) = ix2 r j from by blk_ext [wix8 t]]
  exact congrArg (Ideal.ofBits .f32) (scl_word _)

/-- Window 11's block: the scales' numbers. -/
theorem blk11 (t : Fin cfg0.N) (r : Fin 160) (j : Fin 1280) : (iblk m c 11 t : Vec Ideal S160x1280 .f32) (ix2 r j) = scl (m (c.tc.loc main_arg11) (ix2 r j)) := by
  blk_simp [iblk, wix11 t]
  entry_read
  rw [show (((View.whole main_v15).slice (win0_11.rect t)).emb (ix2 r j)) = ix2 r j from by blk_ext [wix11 t]]
  exact congrArg (Ideal.ofBits .f32) (scl_word _)

/-- Window 4's block. -/
theorem blk4 (t : Fin cfg0.N) (j : Fin 1280) : (iblk m c 4 t : Vec Ideal S1x1280 .f32) (ix2 0 j) = m (c.tc.loc main_arg4) (ix1 j) := by
  blk_simp [iblk, wix4 t]
  entry_read
  pointwise
  blk_ext [wix4 t]

/-- Window 5's block. -/
theorem blk5 (t : Fin cfg0.N) (j : Fin 1280) : (iblk m c 5 t : Vec Ideal S1x1280 .f32) (ix2 0 j) = m (c.tc.loc main_arg5) (ix1 j) := by
  blk_simp [iblk, wix5 t]
  entry_read
  pointwise
  blk_ext [wix5 t]

/-- Window 6's block. -/
theorem blk6 (t : Fin cfg0.N) (j : Fin 1280) : (iblk m c 6 t : Vec Ideal S1x1280 .f32) (ix2 0 j) = m (c.tc.loc main_arg6) (ix1 j) := by
  blk_simp [iblk, wix6 t]
  entry_read
  pointwise
  blk_ext [wix6 t]

/-- Window 9's block. -/
theorem blk9 (t : Fin cfg0.N) (j : Fin 5120) : (iblk m c 9 t : Vec Ideal S1x5120 .f32) (ix2 0 j) = m (c.tc.loc main_arg9) (ix1 j) := by
  blk_simp [iblk, wix9 t]
  entry_read
  pointwise
  blk_ext [wix9 t]

/-- Window 12's block. -/
theorem blk12 (t : Fin cfg0.N) (j : Fin 1280) : (iblk m c 12 t : Vec Ideal S1x1280 .f32) (ix2 0 j) = m (c.tc.loc main_arg12) (ix1 j) := by
  blk_simp [iblk, wix12 t]
  entry_read
  pointwise
  blk_ext [wix12 t]

end Mx
-- ==== Proof.RDense.lean ====
/- Dense weights at an entry, and a product with them. -/
module

public import proofs.«01_k».proof.Proof.Data

@[expose] public section
noncomputable section
namespace Mx
open Idealize.ShloMosaic

/-- Dense weights at an entry, from a packed array and a scale array. -/
theorem dense_eq {K W H G : ℕ} (hH : W = 2 * H) (A : (⟨2, ![K, H]⟩ : Shape).Idx → BitVec 8) (B : (⟨2, ![G, W]⟩ : Shape).Idx → BitVec 8) (r : Fin K) (q : Fin W) (hg : r.val / 32 < G) :
    dense H (at2 A) (at2 B) r.val q.val = (if h : q.val < H then nv (lo8 (A (ix2 r ⟨q.val, h⟩))) else nv (hi8 (A (ix2 r ⟨q.val - H, by omega⟩)))) * scl (B (ix2 ⟨r.val / 32, hg⟩ q)) := by
  unfold dense
  rw [at2_eq B hg q.isLt]
  by_cases h : q.val < H
  · rw [if_pos h, dif_pos h, at2_eq A r.isLt h]
  · rw [if_neg h, dif_neg h, at2_eq A r.isLt (by omega)]
end Mx
-- ==== Proof.KVal.lean ====
/- The result arrays of the kernel: every grid point's rows, and their union. -/
module

public import proofs.«01_k».proof.Proof.OutA
public import proofs.«01_k».proof.Proof.OutB
public import proofs.«01_k».proof.Proof.Reads
public import proofs.«01_k».proof.Proof.RDense

@[expose] public section
set_option maxRecDepth 16384
set_option maxHeartbeats 2000000
noncomputable section
namespace Mx
open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- The kernel's inputs by row and column. -/
def DK : Dat := mkDat (m (c.tc.loc main_arg0)) (m (c.tc.loc main_arg1)) (m (c.tc.loc main_arg2)) (m (c.tc.loc main_arg3)) (m (c.tc.loc main_arg4)) (m (c.tc.loc main_arg5)) (m (c.tc.loc main_arg6))
  (m (c.tc.loc main_arg7)) (m (c.tc.loc main_arg8)) (m (c.tc.loc main_arg9)) (m (c.tc.loc main_arg10)) (m (c.tc.loc main_arg11)) (m (c.tc.loc main_arg12))

/-- Every grid point leaves its rows. -/
theorem good : ∀ (n : ℕ) (hn : n < cfg0.N), Good (outsAt0 m c n hn) ((DK m c).shift (256 * n))
  | 0, hn => by
    rw [outsAt0_A m c ⟨0, hn⟩ rfl]
    refine outA_good _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      (fun r k => ?_) (fun r k => ?_) (fun k => ?_) (fun k => ?_) (fun k => ?_) (fun k => ?_) (fun k => ?_) (fun r q => ?_) (fun r q => ?_) (fun r q => ?_)
    · exact (blk0 m c _ r k).trans (at2_eq (α := EReal) _ _ _).symm
    · exact (blk1 m c _ r k).trans (at2_eq (α := EReal) _ _ _).symm
    · exact (blk4 m c _ k).trans (at1_eq (α := EReal) _ _).symm
    · exact (blk5 m c _ k).trans (at1_eq (α := EReal) _ _).symm
    · exact (blk6 m c _ k).trans (at1_eq (α := EReal) _ _).symm
    · exact (blk9 m c _ k).trans (at1_eq (α := EReal) _ _).symm
    · exact (blk12 m c _ k).trans (at1_eq (α := EReal) _ _).symm
    · rw [blk3 m c]
      simp only [blk2 m c]
      exact (dense_eq (H := 640) rfl _ _ r q _).symm
    · rw [blk8 m c]
      simp only [blk7 m c]
      exact (dense_eq (H := 2560) rfl _ _ r q _).symm
    · rw [blk11 m c]
      simp only [blk10 m c]
      exact (dense_eq (H := 640) rfl _ _ r q _).symm
  | n + 1, hn => by
    have h94 : ¬(⟨n + 1, hn⟩ : Fin cfg0.N).val % 94 = 0 := by
      have h : n + 1 < 94 := Nat.lt_of_lt_of_eq hn N_0
      show ¬(n + 1) % 94 = 0
      omega
    have ih := good n (Nat.lt_of_succ_lt hn)
    rw [outsAt0_B m c ⟨n + 1, hn⟩ h94]
    refine outB_good _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _
      (fun r k => ?_) (fun r k => ?_) (fun k => ?_) (fun k => ?_) (fun k => ?_) (fun k => ?_) (fun k => ?_) (fun r q => ?_) (fun r q => ?_) (fun r q => ?_)
    · exact (blk0 m c _ r k).trans (at2_eq (α := EReal) _ _ _).symm
    · exact (blk1 m c _ r k).trans (at2_eq (α := EReal) _ _ _).symm
    · exact (blk4 m c _ k).trans (at1_eq (α := EReal) _ _).symm
    · exact (blk5 m c _ k).trans (at1_eq (α := EReal) _ _).symm
    · exact (blk6 m c _ k).trans (at1_eq (α := EReal) _ _).symm
    · exact (blk9 m c _ k).trans (at1_eq (α := EReal) _ _).symm
    · exact (blk12 m c _ k).trans (at1_eq (α := EReal) _ _).symm
    · exact ih.2.2.2.2.2.2.1 r q
    · exact ih.2.2.2.2.2.2.2.1 r q
    · exact ih.2.2.2.2.2.2.2.2 r q

end Mx
-- ==== Proof.KArr.lean ====
/- The result arrays of the kernel: every grid point's rows, and their union. -/
module

public import proofs.«01_k».proof.Proof.KVal
import Idealize.ShloMosaic.Lib.Pipeline.ValueKit

@[expose] public section
set_option maxRecDepth 16384
set_option maxHeartbeats 2000000
noncomputable section
namespace Mx
open Idealize.ShloMosaic Idealize.ShloMosaic.TcCoe Idealize.ShloMosaic.Tactic Cert.KernelIdeal Cert.KernelIdeal.Gen

variable (m : (ℓ : Loc nD τ sig) → Buf (Elt Ideal) ℓ) (c : Dev nD)

/-- Where window 13 lies. -/
theorem wix13 : ∀ t : Fin cfg0.N, win0_13.index t = ![t.val, 0] := (by decide +kernel : ∀ t : Fin grid0.N, _)
/-- Where window 14 lies. -/
theorem wix14 : ∀ t : Fin cfg0.N, win0_14.index t = ![t.val, 0] := (by decide +kernel : ∀ t : Fin grid0.N, _)
/-- Where window 15 lies. -/
theorem wix15 : ∀ t : Fin cfg0.N, win0_15.index t = ![t.val, 0] := (by decide +kernel : ∀ t : Fin grid0.N, _)
/-- Where window 16 lies. -/
theorem wix16 : ∀ t : Fin cfg0.N, win0_16.index t = ![t.val, 0] := (by decide +kernel : ∀ t : Fin grid0.N, _)
/-- Where window 17 lies. -/
theorem wix17 : ∀ t : Fin cfg0.N, win0_17.index t = ![t.val, 0] := (by decide +kernel : ∀ t : Fin grid0.N, _)
/-- Where window 18 lies. -/
theorem wix18 : ∀ t : Fin cfg0.N, win0_18.index t = ![t.val, 0] := (by decide +kernel : ∀ t : Fin grid0.N, _)

/-- Result window 13 as one array. -/
def res13 : Vec Ideal S24064x1280 .fp8e4m3 := fun i => (DK m c).c2 (i 0).val (i 1).val
/-- Result window 13 after all the grid points. -/
theorem arr13 : (dats m 0 c).arrAt 13 cfg0.N = res13 m c := by
  refine (dats m 0 c).arrAt_eq_of_covers 13 _ (by decide +kernel) fun t hf y => ?_
  have e0 : (((cfg0.win 13).blk t).view.emb y 0).val = 256 * t.val + (y 0).val := by
    blk_simp [wix13 t]
    omega
  have e1 : (((cfg0.win 13).blk t).view.emb y 1).val = (y 1).val := by
    blk_simp [wix13 t]
  rw [after0_13]
  refine Eq.trans ((congrArg (outsAt0 m c t.val t.isLt).1 (eq_ix2 y)).trans ((good m c t.val t.isLt).1 (y 0) (y 1))) ?_
  show (DK m c).c2 (256 * t.val + (y 0).val) (y 1).val = (DK m c).c2 (((cfg0.win 13).blk t).view.emb y 0).val (((cfg0.win 13).blk t).view.emb y 1).val
  rw [e0, e1]

/-- Result window 14 as one array. -/
def res14 : Vec Ideal S24064x40 .i8 := fun i => (DK m c).s2 (i 0).val (i 1).val
/-- Result window 14 after all the grid points. -/
theorem arr14 : (dats m 0 c).arrAt 14 cfg0.N = res14 m c := by
  refine (dats m 0 c).arrAt_eq_of_covers 14 _ (by decide +kernel) fun t hf y => ?_
  have e0 : (((cfg0.win 14).blk t).view.emb y 0).val = 256 * t.val + (y 0).val := by
    blk_simp [wix14 t]
    omega
  have e1 : (((cfg0.win 14).blk t).view.emb y 1).val = (y 1).val := by
    blk_simp [wix14 t]
  rw [after0_14]
  refine Eq.trans ((congrArg (outsAt0 m c t.val t.isLt).2.1 (eq_ix2 y)).trans ((good m c t.val t.isLt).2.1 (y 0) (y 1))) ?_
  show (DK m c).s2 (256 * t.val + (y 0).val) (y 1).val = (DK m c).s2 (((cfg0.win 14).blk t).view.emb y 0).val (((cfg0.win 14).blk t).view.emb y 1).val
  rw [e0, e1]

/-- Result window 15 as one array. -/
def res15 : Vec Ideal S24064x5120 .fp8e4m3 := fun i => (DK m c).ca (i 0).val (i 1).val
/-- Result window 15 after all the grid points. -/
theorem arr15 : (dats m 0 c).arrAt 15 cfg0.N = res15 m c := by
  refine (dats m 0 c).arrAt_eq_of_covers 15 _ (by decide +kernel) fun t hf y => ?_
  have e0 : (((cfg0.win 15).blk t).view.emb y 0).val = 256 * t.val + (y 0).val := by
    blk_simp [wix15 t]
    omega
  have e1 : (((cfg0.win 15).blk t).view.emb y 1).val = (y 1).val := by
    blk_simp [wix15 t]
  rw [after0_15]
  refine Eq.trans ((congrArg (outsAt0 m c t.val t.isLt).2.2.1 (eq_ix2 y)).trans ((good m c t.val t.isLt).2.2.1 (y 0) (y 1))) ?_
  show (DK m c).ca (256 * t.val + (y 0).val) (y 1).val = (DK m c).ca (((cfg0.win 15).blk t).view.emb y 0).val (((cfg0.win 15).blk t).view.emb y 1).val
  rw [e0, e1]

/-- Result window 16 as one array. -/
def res16 : Vec Ideal S24064x160 .i8 := fun i => (DK m c).sa (i 0).val (i 1).val
/-- Result window 16 after all the grid points. -/
theorem arr16 : (dats m 0 c).arrAt 16 cfg0.N = res16 m c := by
  refine (dats m 0 c).arrAt_eq_of_covers 16 _ (by decide +kernel) fun t hf y => ?_
  have e0 : (((cfg0.win 16).blk t).view.emb y 0).val = 256 * t.val + (y 0).val := by
    blk_simp [wix16 t]
    omega
  have e1 : (((cfg0.win 16).blk t).view.emb y 1).val = (y 1).val := by
    blk_simp [wix16 t]
  rw [after0_16]
  refine Eq.trans ((congrArg (outsAt0 m c t.val t.isLt).2.2.2.1 (eq_ix2 y)).trans ((good m c t.val t.isLt).2.2.2.1 (y 0) (y 1))) ?_
  show (DK m c).sa (256 * t.val + (y 0).val) (y 1).val = (DK m c).sa (((cfg0.win 16).blk t).view.emb y 0).val (((cfg0.win 16).blk t).view.emb y 1).val
  rw [e0, e1]

/-- Result window 17 as one array. -/
def res17 : Vec Ideal S24064x1280 .f32 := fun i => (DK m c).h2 (i 0).val (i 1).val
/-- Result window 17 after all the grid points. -/
theorem arr17 : (dats m 0 c).arrAt 17 cfg0.N = res17 m c := by
  refine (dats m 0 c).arrAt_eq_of_covers 17 _ (by decide +kernel) fun t hf y => ?_
  have e0 : (((cfg0.win 17).blk t).view.emb y 0).val = 256 * t.val + (y 0).val := by
    blk_simp [wix17 t]
    omega
  have e1 : (((cfg0.win 17).blk t).view.emb y 1).val = (y 1).val := by
    blk_simp [wix17 t]
  rw [after0_17]
  refine Eq.trans ((congrArg (outsAt0 m c t.val t.isLt).2.2.2.2.1 (eq_ix2 y)).trans ((good m c t.val t.isLt).2.2.2.2.1 (y 0) (y 1))) ?_
  show (DK m c).h2 (256 * t.val + (y 0).val) (y 1).val = (DK m c).h2 (((cfg0.win 17).blk t).view.emb y 0).val (((cfg0.win 17).blk t).view.emb y 1).val
  rw [e0, e1]

/-- Result window 18 as one array. -/
def res18 : Vec Ideal S24064x1280 .bf16 := fun i => (DK m c).h2 (i 0).val (i 1).val
/-- Result window 18 after all the grid points. -/
theorem arr18 : (dats m 0 c).arrAt 18 cfg0.N = res18 m c := by
  refine (dats m 0 c).arrAt_eq_of_covers 18 _ (by decide +kernel) fun t hf y => ?_
  have e0 : (((cfg0.win 18).blk t).view.emb y 0).val = 256 * t.val + (y 0).val := by
    blk_simp [wix18 t]
    omega
  have e1 : (((cfg0.win 18).blk t).view.emb y 1).val = (y 1).val := by
    blk_simp [wix18 t]
  rw [after0_18]
  refine Eq.trans ((congrArg (outsAt0 m c t.val t.isLt).2.2.2.2.2.1 (eq_ix2 y)).trans ((good m c t.val t.isLt).2.2.2.2.2.1 (y 0) (y 1))) ?_
  show (DK m c).h2 (256 * t.val + (y 0).val) (y 1).val = (DK m c).h2 (((cfg0.win 18).blk t).view.emb y 0).val (((cfg0.win 18).blk t).view.emb y 1).val
  rw [e0, e1]

end Mx
-- ==== Proof.RScal.lean ====
/- The reference's scalar steps: four-bit codes, scale bytes and exponents. -/
module

public import proofs.«01_k».proof.Proof.Spec
public import proofs.«01_k».proof.Proof.Bytes
import Idealize.ShloMosaic.Lib.Pointwise

@[expose] public section
set_option maxRecDepth 16384
noncomputable section
namespace Mx
open Idealize.ShloMosaic

/-- A four-bit code's number, by its bits. -/
def tree (n : BitVec 32) : EReal :=
  Scalar.select (IntOp.cmpi .ne (IntOp.andi n 8#32) 0#32)
    (0 - Scalar.select (IntOp.cmpi .ne (IntOp.andi n 4#32) 0#32)
      (Scalar.select (IntOp.cmpi .ne (IntOp.andi n 2#32) 0#32)
        (Scalar.select (IntOp.cmpi .ne (IntOp.andi n 1#32) 0#32) (Ideal.ofBits .f32 0x40C00000#32) (Ideal.ofBits .f32 0x40800000#32))
        (Scalar.select (IntOp.cmpi .ne (IntOp.andi n 1#32) 0#32) (Ideal.ofBits .f32 0x40400000#32) (Ideal.ofBits .f32 0x40000000#32)))
      (Scalar.select (IntOp.cmpi .ne (IntOp.andi n 2#32) 0#32)
        (Scalar.select (IntOp.cmpi .ne (IntOp.andi n 1#32) 0#32) (Ideal.ofBits .f32 0x3FC00000#32) 1)
        (Scalar.select (IntOp.cmpi .ne (IntOp.andi n 1#32) 0#32) (Ideal.ofBits .f32 0x3F000000#32) 0)))
    (Scalar.select (IntOp.cmpi .ne (IntOp.andi n 4#32) 0#32)
      (Scalar.select (IntOp.cmpi .ne (IntOp.andi n 2#32) 0#32)
        (Scalar.select (IntOp.cmpi .ne (IntOp.andi n 1#32) 0#32) (Ideal.ofBits .f32 0x40C00000#32) (Ideal.ofBits .f32 0x40800000#32))
        (Scalar.select (IntOp.cmpi .ne (IntOp.andi n 1#32) 0#32) (Ideal.ofBits .f32 0x40400000#32) (Ideal.ofBits .f32 0x40000000#32)))
      (Scalar.select (IntOp.cmpi .ne (IntOp.andi n 2#32) 0#32)
        (Scalar.select (IntOp.cmpi .ne (IntOp.andi n 1#32) 0#32) (Ideal.ofBits .f32 0x3FC00000#32) 1)
        (Scalar.select (IntOp.cmpi .ne (IntOp.andi n 1#32) 0#32) (Ideal.ofBits .f32 0x3F000000#32) 0)))

/-- The number six. -/
theorem k6 : Ideal.ofBits .f32 0x40C00000#32 = ((6 : ℝ) : EReal) := by simp [Ideal.ofBits, Ideal.ieee, -EReal.coe_mul]; norm_num
/-- The number four. -/
theorem k4 : Ideal.ofBits .f32 0x40800000#32 = ((4 : ℝ) : EReal) := by simp [Ideal.ofBits, Ideal.ieee, -EReal.coe_mul]; norm_num
/-- The number three. -/
theorem k3 : Ideal.ofBits .f32 0x40400000#32 = ((3 : ℝ) : EReal) := by simp [Ideal.ofBits, Ideal.ieee, -EReal.coe_mul]; norm_num
/-- The number two. -/
theorem k2 : Ideal.ofBits .f32 0x40000000#32 = ((2 : ℝ) : EReal) := by simp [Ideal.ofBits, Ideal.ieee, -EReal.coe_mul]; norm_num
/-- The number three halves. -/
theorem k15 : Ideal.ofBits .f32 0x3FC00000#32 = ((3 / 2 : ℝ) : EReal) := by simp [Ideal.ofBits, Ideal.ieee, -EReal.coe_mul]; norm_num
/-- The number one half. -/
theorem k05 : Ideal.ofBits .f32 0x3F000000#32 = ((1 / 2 : ℝ) : EReal) := by simp [Ideal.ofBits, Ideal.ieee, -EReal.coe_mul]; norm_num
/-- The number 64. -/
theorem k64 : Ideal.ofBits .bf16 0x4280#16 = ((64 : ℝ) : EReal) := by simp [Ideal.ofBits, Ideal.ieee, -EReal.coe_mul]; norm_num

/-- The sixteen codes. -/
theorem tree_nib (n : Fin 16) : tree (BitVec.ofNat 32 n.val) = nv (BitVec.ofNat 8 ((n.val / 8) * 128 + (n.val % 8) * 4)) := by
  unfold tree nv
  rw [k6, k4, k3, k2, k15, k05, k64]
  fin_cases n <;>
  · simp [Scalar.select, IntOp.cmpi, IntOp.andi, Ideal.ofBits, Ideal.e4m3fn, -EReal.coe_mul, -EReal.coe_neg]
    try (first | rw [← EReal.coe_neg, ← EReal.coe_mul] | rw [← EReal.coe_mul])
    try norm_num

/-- The low four bits of a byte. -/
theorem tree_lo (b : BitVec 8) : tree (IntOp.andi (b.setWidth 32) 15#32) = nv (lo8 b) := by
  have hb := b.isLt
  have h1 : IntOp.andi (b.setWidth 32) 15#32 = BitVec.ofNat 32 (b.toNat % 16) := by
    apply BitVec.eq_of_toNat_eq
    show ((b.setWidth 32) &&& 15#32).toNat = _
    rw [BitVec.toNat_and, BitVec.toNat_setWidth, BitVec.toNat_ofNat, BitVec.toNat_ofNat, show (15 % 2 ^ 32 : ℕ) = 2 ^ 4 - 1 from rfl, Nat.and_two_pow_sub_one_eq_mod]
    omega
  have h2 : lo8 b = BitVec.ofNat 8 ((b.toNat % 16 / 8) * 128 + (b.toNat % 16 % 8) * 4) := by
    revert b; decide
  rw [h1, h2]
  exact tree_nib ⟨b.toNat % 16, Nat.mod_lt _ (by decide)⟩

/-- The high four bits of a byte. -/
theorem tree_hi (b : BitVec 8) : tree (IntOp.andi (IntOp.shrsi .vector (b.setWidth 32) 4#32) 15#32) = nv (hi8 b) := by
  have hb := b.isLt
  have h1 : IntOp.andi (IntOp.shrsi .vector (b.setWidth 32) 4#32) 15#32 = BitVec.ofNat 32 (b.toNat / 16) := by
    have h : IntOp.andi (IntOp.shrsi .vector (b.setWidth 32) 4#32) 15#32 = ((b.setWidth 32).sshiftRight 4) &&& 15#32 := rfl
    rw [h]
    revert b; decide
  have h2 : hi8 b = BitVec.ofNat 8 ((b.toNat / 16 / 8) * 128 + (b.toNat / 16 % 8) * 4) := by
    revert b; decide
  rw [h1, h2]
  exact tree_nib ⟨b.toNat / 16, by omega⟩

/-- Two to the power of an exponent less 127. -/
theorem exp2_int (n : ℤ) : Ideal.exp2 (((n : ℝ) : EReal)) = pw n := congrArg Real.toEReal (Real.rpow_intCast 2 n)

/-- The constant 127. -/
theorem k127 : Ideal.ofBits .f32 0x42FE0000#32 = ((127 : ℝ) : EReal) := by simp [Ideal.ofBits, Ideal.ieee, -EReal.coe_mul]; norm_num
/-- The constant 126. -/
theorem k126 : Ideal.ofBits .f32 0x42FC0000#32 = ((126 : ℝ) : EReal) := by simp [Ideal.ofBits, Ideal.ieee, -EReal.coe_mul]; norm_num

/-- A scale byte's number, as the reference computes it. -/
theorem scl_sel (b : BitVec 8) :
    Scalar.select (IntOp.cmpi .eq (b.setWidth 32) 0#32) 0
      (Scalar.select (IntOp.cmpi .eq (b.setWidth 32) 255#32) (Ideal.ofBits .f32 0x7F800000#32)
        (FloatOps.exp2 (F := Ideal) (φ := .f32) (FloatOps.sitofp (F := Ideal) .f32 (b.setWidth 32) - Ideal.ofBits .f32 0x42FE0000#32 : EReal) : EReal)) = scl b := by
  have hb := b.isLt
  unfold scl
  by_cases h0 : b.toNat = 0
  · have e : b = 0#8 := BitVec.eq_of_toNat_eq h0
    subst e
    exact ofBits_E0.symm
  · have n0 : b.setWidth 32 ≠ 0#32 := fun h => h0 (by have := congrArg BitVec.toNat h; rw [BitVec.toNat_setWidth, BitVec.toNat_ofNat] at this; omega)
    by_cases h1 : b.toNat = 255
    · have e : b = 255#8 := BitVec.eq_of_toNat_eq h1
      subst e
      exact (by simp [Ideal.ofBits, Ideal.ieee] : Ideal.ofBits .f32 0x7F800000#32 = ⊤).trans ofBits_E255.symm
    · have n1 : b.setWidth 32 ≠ 255#32 := fun h => h1 (by have := congrArg BitVec.toNat h; rw [BitVec.toNat_setWidth, BitVec.toNat_ofNat] at this; omega)
      have c0 : IntOp.cmpi .eq (b.setWidth 32) 0#32 = 0#1 := by simp [IntOp.cmpi, beq_eq_false_iff_ne.2 n0]
      have c1 : IntOp.cmpi .eq (b.setWidth 32) 255#32 = 0#1 := by simp [IntOp.cmpi, beq_eq_false_iff_ne.2 n1]
      rw [c0, c1]
      have hi : (b.setWidth 32).toInt = (b.toNat : ℤ) := by
        rw [BitVec.toInt_eq_toNat_of_lt, BitVec.toNat_setWidth]
        · congr 1; omega
        · rw [BitVec.toNat_setWidth]; omega
      have hs : (FloatOps.sitofp (F := Ideal) .f32 (b.setWidth 32) : EReal) = (((b.toNat : ℤ) : ℝ) : EReal) := by
        show ((((b.setWidth 32).toInt : ℤ) : ℝ) : EReal) = _
        rw [hi]
      show Ideal.exp2 ((FloatOps.sitofp (F := Ideal) .f32 (b.setWidth 32) : EReal) - Ideal.ofBits .f32 0x42FE0000#32) = _
      rw [hs, k127, ← EReal.coe_sub, ofBits_E _ (by omega) (by omega), ← exp2_int]
      push_cast
      rfl
end Mx
-- ==== Proof.RWeights.lean ====
/- The reference's weights at an entry: a four-bit code times a scale. -/
module

public import proofs.«01_k».proof.Proof.RScal
public import proofs.«01_k».proof.Proof.Gen.ReferenceIdeal.Frame
import Idealize.ShloMosaic.Lib.Pointwise

@[expose] public section
set_option maxRecDepth 16384
noncomputable section
namespace Mx
open Idealize.ShloMosaic Idealize.ShloMosaic.TcCoe Cert.ReferenceIdeal Cert.ReferenceIdeal.Gen

/-- A scale. -/
theorem r_scl5 (x : Vec Ideal S40x1280 .i8) (k : Fin 40) (c : Fin 1280) : k0_pay5 (F := Ideal) x (ix3 k 0 c) = scl (x (ix2 k c)) := by
  refine Eq.trans ?_ (scl_sel _)
  pointwise [k0_pay5]
/-- A scale. -/
theorem r_scl28 (x : Vec Ideal S40x5120 .i8) (k : Fin 40) (c : Fin 5120) : k0_pay28 (F := Ideal) x (ix3 k 0 c) = scl (x (ix2 k c)) := by
  refine Eq.trans ?_ (scl_sel _)
  pointwise [k0_pay28]
/-- A scale. -/
theorem r_scl44 (x : Vec Ideal S160x1280 .i8) (k : Fin 160) (c : Fin 1280) : k0_pay44 (F := Ideal) x (ix3 k 0 c) = scl (x (ix2 k c)) := by
  refine Eq.trans ?_ (scl_sel _)
  pointwise [k0_pay44]
/-- A low code times its scale. -/
theorem r_lo12 (y : FVec Ideal S40x1x1280 .bf16) (w : Vec Ideal S1280x640 .i8) (k : Fin 40) (i : Fin 32) (c : Fin 640) :
    k0_pay12 (F := Ideal) y (k0_pay7 (F := Ideal) w) (k0_pay8 (F := Ideal) w) (k0_pay9 (F := Ideal) w) (k0_pay10 (F := Ideal) w) k0_pay11 (ix3 k i c) = nv (lo8 (w (ix2 ⟨k.val * 32 + i.val, by omega⟩ c))) * y (ix3 k 0 ⟨c.val, by omega⟩) := by
  refine Eq.trans ?_ (congrArg₂ (fun a b : EReal => a * b) (tree_lo _) rfl)
  unfold tree
  pointwise [k0_pay12, k0_pay7, k0_pay8, k0_pay9, k0_pay10, k0_pay11, k0_pay6, k0_pay4]
/-- A low code times its scale. -/
theorem r_lo31 (y : FVec Ideal S40x1x5120 .bf16) (w : Vec Ideal S1280x2560 .i8) (k : Fin 40) (i : Fin 32) (c : Fin 2560) :
    k0_pay31 (F := Ideal) y (k0_pay29 (F := Ideal) w) (k0_pay30 (F := Ideal) w) 0#32 (ix3 k i c) = nv (lo8 (w (ix2 ⟨k.val * 32 + i.val, by omega⟩ c))) * y (ix3 k 0 ⟨c.val, by omega⟩) := by
  refine Eq.trans ?_ (congrArg₂ (fun a b : EReal => a * b) (tree_lo _) rfl)
  unfold tree
  pointwise [k0_pay31, k0_pay29, k0_pay30, k0_pay27]
/-- A low code times its scale. -/
theorem r_lo47 (y : FVec Ideal S160x1x1280 .bf16) (w : Vec Ideal S5120x640 .i8) (k : Fin 160) (i : Fin 32) (c : Fin 640) :
    k0_pay47 (F := Ideal) y (k0_pay45 (F := Ideal) w) (k0_pay46 (F := Ideal) w) (ix3 k i c) = nv (lo8 (w (ix2 ⟨k.val * 32 + i.val, by omega⟩ c))) * y (ix3 k 0 ⟨c.val, by omega⟩) := by
  refine Eq.trans ?_ (congrArg₂ (fun a b : EReal => a * b) (tree_lo _) rfl)
  unfold tree
  pointwise [k0_pay47, k0_pay45, k0_pay46, k0_pay43]
/-- The number of a code from its four bits. -/
def trb (b1 b2 b4 : BitVec 1) (b8 : BitVec 32) : EReal :=
  Scalar.select (IntOp.cmpi .ne b8 0#32)
    (0 - Scalar.select b4 (Scalar.select b2 (Scalar.select b1 (Ideal.ofBits .f32 0x40C00000#32) (Ideal.ofBits .f32 0x40800000#32)) (Scalar.select b1 (Ideal.ofBits .f32 0x40400000#32) (Ideal.ofBits .f32 0x40000000#32)))
      (Scalar.select b2 (Scalar.select b1 (Ideal.ofBits .f32 0x3FC00000#32) 1) (Scalar.select b1 (Ideal.ofBits .f32 0x3F000000#32) 0)))
    (Scalar.select b4 (Scalar.select b2 (Scalar.select b1 (Ideal.ofBits .f32 0x40C00000#32) (Ideal.ofBits .f32 0x40800000#32)) (Scalar.select b1 (Ideal.ofBits .f32 0x40400000#32) (Ideal.ofBits .f32 0x40000000#32)))
      (Scalar.select b2 (Scalar.select b1 (Ideal.ofBits .f32 0x3FC00000#32) 1) (Scalar.select b1 (Ideal.ofBits .f32 0x3F000000#32) 0)))
/-- The first residual stream from the two products, the high codes' bits given apart. -/
theorem r_h1g (v1 : FVec Ideal S24064x1280 .f32) (v2 : FVec Ideal S24064x1280 .bf16) (y : FVec Ideal S40x1x1280 .bf16) (u : FVec Ideal S40x32x640 .bf16) (z14 z15 z16 : IVec S1280x640 1) (z17 : IVec S1280x640 32) (bo : FVec Ideal S1280 .f32) (r : Fin 24064) (c : Fin 1280) :
    k0_pay18 (F := Ideal) v1 v2 y u z14 z15 z16 z17 bo (ix2 r c) =
      v1 (ix2 r c) + ((if h : c.val < 640 then ∑ x : Fin 1280, v2 (ix2 r x) * u (ix3 ⟨x.val / 32, by omega⟩ ⟨x.val % 32, by omega⟩ ⟨c.val, h⟩)
        else ∑ x : Fin 1280, v2 (ix2 r x) * (trb (z14 (ix2 x ⟨c.val - 640, by omega⟩)) (z15 (ix2 x ⟨c.val - 640, by omega⟩)) (z16 (ix2 x ⟨c.val - 640, by omega⟩)) (z17 (ix2 x ⟨c.val - 640, by omega⟩)) * y (ix3 ⟨x.val / 32, by omega⟩ 0 ⟨640 + (c.val - 640), by omega⟩))) + bo (ix1 c)) := by
  unfold trb
  pointwise [k0_pay18]
/-- The high codes' bits. -/
theorem r_bits (w : Vec Ideal S1280x640 .i8) (j : S1280x640.Idx) :
    trb (k0_pay14 (k0_pay4 (F := Ideal) w) j) (k0_pay15 (k0_pay4 (F := Ideal) w) j) (k0_pay16 (k0_pay4 (F := Ideal) w) j) (k0_pay17 (k0_pay4 (F := Ideal) w) j) = nv (hi8 (w j)) := by
  rw [← tree_hi]
  rfl
/-- The first residual stream from the two products. -/
theorem r_h1 (v1 : FVec Ideal S24064x1280 .f32) (v2 : FVec Ideal S24064x1280 .bf16) (y : FVec Ideal S40x1x1280 .bf16) (u : FVec Ideal S40x32x640 .bf16) (w : Vec Ideal S1280x640 .i8) (bo : FVec Ideal S1280 .f32) (r : Fin 24064) (c : Fin 1280) :
    k0_pay18 (F := Ideal) v1 v2 y u (k0_pay14 (k0_pay4 (F := Ideal) w)) (k0_pay15 (k0_pay4 (F := Ideal) w)) (k0_pay16 (k0_pay4 (F := Ideal) w)) (k0_pay17 (k0_pay4 (F := Ideal) w)) bo (ix2 r c) =
      v1 (ix2 r c) + ((if h : c.val < 640 then ∑ x : Fin 1280, v2 (ix2 r x) * u (ix3 ⟨x.val / 32, by omega⟩ ⟨x.val % 32, by omega⟩ ⟨c.val, h⟩)
        else ∑ x : Fin 1280, v2 (ix2 r x) * (nv (hi8 (w (ix2 x ⟨c.val - 640, by omega⟩))) * y (ix3 ⟨x.val / 32, by omega⟩ 0 ⟨640 + (c.val - 640), by omega⟩))) + bo (ix1 c)) := by
  rw [r_h1g]
  simp only [r_bits]
/-- The low columns of the second product. -/
theorem r_p1 (a : FVec Ideal S24064x1280 .bf16) (u : FVec Ideal S40x32x2560 .bf16) (r : Fin 24064) (c : Fin 2560) :
    k0_pay34 (F := Ideal) a u (ix2 r c) = ∑ x : Fin 1280, a (ix2 r x) * u (ix3 ⟨x.val / 32, by omega⟩ ⟨x.val % 32, by omega⟩ c) := by
  pointwise [k0_pay34]
/-- The high columns of the second product. -/
theorem r_p2 (a : FVec Ideal S24064x1280 .bf16) (y : FVec Ideal S40x1x5120 .bf16) (w : Vec Ideal S1280x2560 .i8) (r : Fin 24064) (c : Fin 2560) :
    k0_pay35 (F := Ideal) a y (k0_pay32 (k0_pay27 (F := Ideal) w)) k0_pay33 (ix2 r c) =
      ∑ x : Fin 1280, a (ix2 r x) * (nv (hi8 (w (ix2 x c))) * y (ix3 ⟨x.val / 32, by omega⟩ 0 ⟨2560 + c.val, by omega⟩)) := by
  simp only [← tree_hi]
  unfold tree
  pointwise [k0_pay35, k0_pay32, k0_pay33, k0_pay27]
/-- The third product. -/
theorem r_p3 (a : FVec Ideal S24064x5120 .bf16) (y : FVec Ideal S160x1x1280 .bf16) (u : FVec Ideal S160x32x640 .bf16) (w : Vec Ideal S5120x640 .i8) (r : Fin 24064) (c : Fin 1280) :
    k0_pay50 (F := Ideal) a y u (k0_pay48 (k0_pay43 (F := Ideal) w)) (k0_pay49 (k0_pay43 (F := Ideal) w)) 0#32 (ix2 r c) =
      (if h : c.val < 640 then ∑ x : Fin 5120, a (ix2 r x) * u (ix3 ⟨x.val / 32, by omega⟩ ⟨x.val % 32, by omega⟩ ⟨c.val, h⟩)
        else ∑ x : Fin 5120, a (ix2 r x) * (nv (hi8 (w (ix2 x ⟨c.val - 640, by omega⟩))) * y (ix3 ⟨x.val / 32, by omega⟩ 0 ⟨640 + (c.val - 640), by omega⟩))) := by
  simp only [← tree_hi]
  unfold tree
  pointwise [k0_pay50, k0_pay48, k0_pay49, k0_pay43]
end Mx
-- ==== Proof.RExp.lean ====
/- The reference's exponents: a count of powers of two below a bound is a field. -/
module

public import proofs.«01_k».proof.Proof.RScal

@[expose] public section
set_option maxRecDepth 16384
noncomputable section
namespace Mx
open Idealize.ShloMosaic

/-- The powers of two up to a bound, counted. -/
theorem count_eq (t : EReal) :
    (∑ j : Fin 252, if (FloatOps.exp2 (F := Ideal) (φ := .f32) (FloatOps.sitofp (F := Ideal) .f32 (BitVec.ofNat 32 j.val) - Ideal.ofBits .f32 0x42FC0000#32 : EReal) : EReal) ≤ t then (1 : EReal) else 0)
      = ((fld t : ℝ) : EReal) := by
  have h : ∀ j : Fin 252, (FloatOps.exp2 (F := Ideal) (φ := .f32) (FloatOps.sitofp (F := Ideal) .f32 (BitVec.ofNat 32 j.val) - Ideal.ofBits .f32 0x42FC0000#32 : EReal) : EReal) = pw ((j.val : ℤ) - 126) := by
    intro j
    have hi : (BitVec.ofNat 32 j.val).toInt = (j.val : ℤ) := by
      rw [BitVec.toInt_eq_toNat_of_lt, BitVec.toNat_ofNat]
      · congr 1; omega
      · rw [BitVec.toNat_ofNat]; omega
    have hs : (FloatOps.sitofp (F := Ideal) .f32 (BitVec.ofNat 32 j.val) : EReal) = (((j.val : ℤ) : ℝ) : EReal) := by
      show ((((BitVec.ofNat 32 j.val).toInt : ℤ) : ℝ) : EReal) = _
      rw [hi]
    show Ideal.exp2 ((FloatOps.sitofp (F := Ideal) .f32 (BitVec.ofNat 32 j.val) : EReal) - _) = _
    rw [hs, k126, ← EReal.coe_sub, ← exp2_int]
    push_cast
    rfl
  simp only [h]
  rw [Finset.sum_ite, Finset.sum_const_zero, add_zero, Finset.sum_const]
  unfold fld
  simp

/-- An exponent, from the count. -/
theorem expo_eq (f : ℕ) :
    Scalar.select (FloatOps.cmpf (F := Ideal) (φ := .f32) .oeq (((f : ℝ) : EReal)) (0 : EReal)) (0 : EReal) (((f : ℝ) : EReal) - Ideal.ofBits .f32 0x42FC0000#32)
      = ((((sB f : ℤ) - 127 : ℤ) : ℝ) : EReal) := by
  show Scalar.select (BitVec.ofBool (decide ((((f : ℝ) : EReal)) = (0 : EReal)))) _ _ = _
  rw [k126, ← EReal.coe_sub]
  unfold sB
  by_cases h : f = 0
  · subst h
    simp [Scalar.select]
  · have : ¬ (((f : ℝ) : EReal)) = 0 := by
      intro e
      exact h (by exact_mod_cast e)
    rw [if_neg h]
    simp only [this, decide_false]
    show (((f : ℝ) - 126 : ℝ) : EReal) = _
    congr 1
    push_cast
    ring

/-- A scale byte, from the exponent. -/
theorem byte_eq (f : ℕ) (hf : f ≤ 252) :
    BitVec.setWidth 8 (FloatOps.fptosi (F := Ideal) (φ := .f32) 32 ((((((sB f : ℤ) - 127 : ℤ) : ℝ) : EReal)) + Ideal.ofBits .f32 0x42FE0000#32 : EReal)) = BitVec.ofNat 8 (sB f) := by
  have h := sB_le hf
  rw [k127, ← EReal.coe_add, show ((((sB f : ℤ) - 127 : ℤ) : ℝ) + 127) = ((sB f : ℤ) : ℝ) by push_cast; ring]
  have e : FloatOps.fptosi (F := Ideal) (φ := .f32) 32 (((sB f : ℤ) : ℝ) : EReal) = BitVec.ofNat 32 (sB f) := by
    show BitVec.ofInt 32 (max (-(2 ^ (32 - 1) : ℕ) : ℤ) (min (((2 ^ (32 - 1) : ℕ) : ℤ) - 1) (if 0 ≤ ((sB f : ℤ) : ℝ) then ⌊((sB f : ℤ) : ℝ)⌋ else ⌈((sB f : ℤ) : ℝ)⌉))) = _
    rw [if_pos (by exact_mod_cast Nat.zero_le _), Int.floor_intCast]
    rw [show max (-(2 ^ (32 - 1) : ℕ) : ℤ) (min (((2 ^ (32 - 1) : ℕ) : ℤ) - 1) (sB f : ℤ)) = (sB f : ℤ) by norm_num; omega]
    exact BitVec.ofInt_natCast 32 (sB f)
  rw [e]
  apply BitVec.eq_of_toNat_eq
  simp

/-- Scaling down by the exponent. -/
theorem down_eq (f : ℕ) : (FloatOps.exp2 (F := Ideal) (φ := .f32) (0 - ((((sB f : ℤ) - 127 : ℤ) : ℝ) : EReal) : EReal) : EReal) = pw (127 - sB f) := by
  show Ideal.exp2 (0 - ((((sB f : ℤ) - 127 : ℤ) : ℝ) : EReal)) = _
  rw [← EReal.coe_zero, ← EReal.coe_sub, ← exp2_int]
  congr 2
  push_cast
  ring

/-- Scaling up by the exponent. -/
theorem up_eq (f : ℕ) : (FloatOps.exp2 (F := Ideal) (φ := .f32) ((((sB f : ℤ) - 127 : ℤ) : ℝ) : EReal) : EReal) = pw (sB f - 127) := exp2_int _

/-- The reciprocal is positive. -/
theorem rcp_pos : (0 : EReal) < rcp := by
  unfold rcp
  simp [Ideal.ofBits, Ideal.ieee, -EReal.coe_mul]
/-- Minus infinity. -/
theorem kbot : Ideal.ofBits .f32 0xFF800000#32 = ⊥ := by simp [Ideal.ofBits, Ideal.ieee]
/-- Magnitudes scale by a positive factor. -/
theorem abs_rcp (x : EReal) : (FloatOps.absf (F := Ideal) (φ := .f32) x : EReal) * rcp = FloatOps.absf (F := Ideal) (φ := .f32) (x * rcp : EReal) := by
  show max x (-x) * rcp = max (x * rcp) (-(x * rcp))
  rw [Monotone.map_max (f := fun x : EReal => x * rcp) (fun _ _ h => mul_le_mul_of_nonneg_right h rcp_pos.le), EReal.neg_mul]
/-- The field of a group's greatest magnitude is the greatest field. -/
theorem max_eq (v : Fin 32 → EReal) (w : ℕ → EReal) (h : ∀ j : Fin 32, v j = w j.val) :
    fld (Finset.fold max (Ideal.ofBits .f32 0xFF800000#32) (fun x => (FloatOps.absf (F := Ideal) (φ := .f32) (v x) : EReal)) Finset.univ * rcp) = sup32 fun j => fe (w j) := by
  have hm : ∀ a b : EReal, max a b * rcp = max (a * rcp) (b * rcp) := fun a b =>
    (Monotone.map_max (f := fun x : EReal => x * rcp) (fun _ _ h => mul_le_mul_of_nonneg_right h rcp_pos.le))
  have key : ∀ s : Finset (Fin 32), fld (Finset.fold max (Ideal.ofBits .f32 0xFF800000#32) (fun x => (FloatOps.absf (F := Ideal) (φ := .f32) (v x) : EReal)) s * rcp) = s.sup fun j => fe (v j) := by
    intro s
    induction s using Finset.induction_on with
    | empty =>
      rw [Finset.fold_empty, kbot, EReal.bot_mul_of_pos rcp_pos, Finset.sup_empty]
      unfold fld
      simp [pw]
    | insert a s ha ih =>
      rw [Finset.fold_insert ha, hm, fld_max, ih, Finset.sup_insert, abs_rcp]
      rfl
  rw [key]
  unfold sup32
  apply le_antisymm
  · exact Finset.sup_le fun j _ => by rw [h]; exact Finset.le_sup (f := fun j => fe (w j)) (Finset.mem_range.2 j.isLt)
  · exact Finset.sup_le fun j hj => by
      have := Finset.le_sup (f := fun j => fe (v j)) (Finset.mem_univ (⟨j, Finset.mem_range.1 hj⟩ : Fin 32))
      rwa [h] at this
end Mx
-- ==== Proof.RQuant.lean ====
/- The reference's quantiser at a group: the exponent, the codes and the scale byte. -/
module

public import proofs.«01_k».proof.Proof.RExp
public import proofs.«01_k».proof.Proof.Gen.ReferenceIdeal.Frame
import Idealize.ShloMosaic.Lib.Pointwise

@[expose] public section
set_option maxRecDepth 16384
noncomputable section
namespace Mx
open Idealize.ShloMosaic Idealize.ShloMosaic.TcCoe Cert.ReferenceIdeal Cert.ReferenceIdeal.Gen

/-- Over 448. -/
def sc40 (X : FVec Ideal S24064x40 .f32) : FVec Ideal S24064x40 .f32 := mulf X (broadcast S24064x40 (Scalar.ofBits .f32 0x3B124925#32))
/-- The greatest magnitude of each group over 448. -/
def mx40 (G : FVec Ideal S24064x40x32 .f32) : FVec Ideal S24064x40 .f32 :=
  sc40 (multiReduction .maximumf [2] S24064x40 (absf G) 0xFF800000#32 reduces_S24064x40x32_S24064x40 (.inl rfl) rfl)
/-- How many powers of two lie at or below it. -/
def ct40 (X : FVec Ideal S24064x40 .f32) : FVec Ideal S24064x40 .f32 :=
  multiReduction .add [2] S24064x40 (select (cmpf .ole (exp2 (subf (sitofp .f32 (iota .tc S24064x40x252 32 [2] iota_S24064x40x252_d2_w32)) (broadcast S24064x40x252 (Scalar.ofBits .f32 0x42FC0000#32))))
    (broadcastTo S24064x40x252 (shapeCast S24064x40x1 X shapeCasts_S24064x40_S24064x40x1) broadcasts_S24064x40x1_S24064x40x252))
    (broadcast S24064x40x252 (Scalar.ofBits (F := Ideal) .f32 0x3F800000#32)) (broadcast S24064x40x252 (Scalar.ofBits (F := Ideal) .f32 0x00000000#32))) 0x00000000#32 reduces_S24064x40x252_S24064x40 (.inl rfl) rfl
/-- The exponent from the count. -/
def ev40 (N : FVec Ideal S24064x40 .f32) : FVec Ideal S24064x40 .f32 :=
  select (cmpf .oeq N (broadcast S24064x40 (Scalar.ofBits .f32 0x00000000#32))) (broadcast S24064x40 (Scalar.ofBits (F := Ideal) .f32 0x00000000#32)) (subf N (broadcast S24064x40 (Scalar.ofBits .f32 0x42FC0000#32)))
/-- The product with the reciprocal of 448, at one of 40 groups. -/
theorem sc40_apply (X : FVec Ideal S24064x40 .f32) (r : Fin 24064) (k : Fin 40) : sc40 X (ix2 r k) = X (ix2 r k) * rcp := by
  unfold sc40 rcp
  pointwise
/-- The greatest magnitude of a group, at one of 40 groups. -/
theorem mr40_apply (G : FVec Ideal S24064x40x32 .f32) (r : Fin 24064) (k : Fin 40) (Y : EReal) (h : Finset.fold max (Ideal.ofBits .f32 0xFF800000#32) (fun x => (FloatOps.absf (F := Ideal) (φ := .f32) (G (ix3 r k x)) : EReal)) Finset.univ = Y) :
    multiReduction (F := Ideal) .maximumf [2] S24064x40 (absf G) 0xFF800000#32 reduces_S24064x40x32_S24064x40 (.inl rfl) rfl (ix2 r k) = Y := by
  pointwise
  rw [← h]
/-- The greatest magnitude of a group over 448, at one of 40 groups. -/
theorem mx40_apply (G : FVec Ideal S24064x40x32 .f32) (r : Fin 24064) (k : Fin 40) : mx40 G (ix2 r k) = Finset.fold max (Ideal.ofBits .f32 0xFF800000#32) (fun x => (FloatOps.absf (F := Ideal) (φ := .f32) (G (ix3 r k x)) : EReal)) Finset.univ * rcp :=
  (sc40_apply _ r k).trans (congrArg (fun x : EReal => x * rcp) (mr40_apply G r k _ rfl))
/-- How many powers of two lie at or below a value is its field, at one of 40 groups. -/
theorem ct40_apply (X : FVec Ideal S24064x40 .f32) (r : Fin 24064) (k : Fin 40) : ct40 X (ix2 r k) = ((fld (X (ix2 r k)) : ℝ) : EReal) := by
  refine Eq.trans ?_ (count_eq _)
  unfold ct40
  pointwise
/-- The exponent from the count, at one of 40 groups. -/
theorem ev40_apply (N : FVec Ideal S24064x40 .f32) (f : ℕ) (r : Fin 24064) (k : Fin 40) (h : N (ix2 r k) = ((f : ℝ) : EReal)) : ev40 N (ix2 r k) = ((((sB f : ℤ) - 127 : ℤ) : ℝ) : EReal) := by
  rw [← expo_eq, ← h]
  unfold ev40
  pointwise
/-- The exponent of a group. -/
theorem ex40 (G : FVec Ideal S24064x40x32 .f32) (v : ℕ → EReal) (r : Fin 24064) (k : Fin 40) (h : ∀ i : Fin 32, G (ix3 r k i) = v (32 * k.val + i.val)) :
    ev40 (ct40 (mx40 G)) (ix2 r k) = ((((sB (gfN v k.val) : ℤ) - 127 : ℤ) : ℝ) : EReal) := by
  refine ev40_apply _ _ r k ((ct40_apply _ r k).trans ?_)
  rw [mx40_apply G r k, max_eq _ (fun j => v (32 * k.val + j)) h]
  rfl
/-- Over 448. -/
def sc160 (X : FVec Ideal S24064x160 .f32) : FVec Ideal S24064x160 .f32 := mulf X (broadcast S24064x160 (Scalar.ofBits .f32 0x3B124925#32))
/-- The greatest magnitude of each group over 448. -/
def mx160 (G : FVec Ideal S24064x160x32 .f32) : FVec Ideal S24064x160 .f32 :=
  sc160 (multiReduction .maximumf [2] S24064x160 (absf G) 0xFF800000#32 reduces_S24064x160x32_S24064x160 (.inl rfl) rfl)
/-- How many powers of two lie at or below it. -/
def ct160 (X : FVec Ideal S24064x160 .f32) : FVec Ideal S24064x160 .f32 :=
  multiReduction .add [2] S24064x160 (select (cmpf .ole (exp2 (subf (sitofp .f32 (iota .tc S24064x160x252 32 [2] iota_S24064x160x252_d2_w32)) (broadcast S24064x160x252 (Scalar.ofBits .f32 0x42FC0000#32))))
    (broadcastTo S24064x160x252 (shapeCast S24064x160x1 X shapeCasts_S24064x160_S24064x160x1) broadcasts_S24064x160x1_S24064x160x252))
    (broadcast S24064x160x252 (Scalar.ofBits (F := Ideal) .f32 0x3F800000#32)) (broadcast S24064x160x252 (Scalar.ofBits (F := Ideal) .f32 0x00000000#32))) 0x00000000#32 reduces_S24064x160x252_S24064x160 (.inl rfl) rfl
/-- The exponent from the count. -/
def ev160 (N : FVec Ideal S24064x160 .f32) : FVec Ideal S24064x160 .f32 :=
  select (cmpf .oeq N (broadcast S24064x160 (Scalar.ofBits .f32 0x00000000#32))) (broadcast S24064x160 (Scalar.ofBits (F := Ideal) .f32 0x00000000#32)) (subf N (broadcast S24064x160 (Scalar.ofBits .f32 0x42FC0000#32)))
/-- The product with the reciprocal of 448, at one of 160 groups. -/
theorem sc160_apply (X : FVec Ideal S24064x160 .f32) (r : Fin 24064) (k : Fin 160) : sc160 X (ix2 r k) = X (ix2 r k) * rcp := by
  unfold sc160 rcp
  pointwise
/-- The greatest magnitude of a group, at one of 160 groups. -/
theorem mr160_apply (G : FVec Ideal S24064x160x32 .f32) (r : Fin 24064) (k : Fin 160) (Y : EReal) (h : Finset.fold max (Ideal.ofBits .f32 0xFF800000#32) (fun x => (FloatOps.absf (F := Ideal) (φ := .f32) (G (ix3 r k x)) : EReal)) Finset.univ = Y) :
    multiReduction (F := Ideal) .maximumf [2] S24064x160 (absf G) 0xFF800000#32 reduces_S24064x160x32_S24064x160 (.inl rfl) rfl (ix2 r k) = Y := by
  pointwise
  rw [← h]
/-- The greatest magnitude of a group over 448, at one of 160 groups. -/
theorem mx160_apply (G : FVec Ideal S24064x160x32 .f32) (r : Fin 24064) (k : Fin 160) : mx160 G (ix2 r k) = Finset.fold max (Ideal.ofBits .f32 0xFF800000#32) (fun x => (FloatOps.absf (F := Ideal) (φ := .f32) (G (ix3 r k x)) : EReal)) Finset.univ * rcp :=
  (sc160_apply _ r k).trans (congrArg (fun x : EReal => x * rcp) (mr160_apply G r k _ rfl))
/-- How many powers of two lie at or below a value is its field, at one of 160 groups. -/
theorem ct160_apply (X : FVec Ideal S24064x160 .f32) (r : Fin 24064) (k : Fin 160) : ct160 X (ix2 r k) = ((fld (X (ix2 r k)) : ℝ) : EReal) := by
  refine Eq.trans ?_ (count_eq _)
  unfold ct160
  pointwise
/-- The exponent from the count, at one of 160 groups. -/
theorem ev160_apply (N : FVec Ideal S24064x160 .f32) (f : ℕ) (r : Fin 24064) (k : Fin 160) (h : N (ix2 r k) = ((f : ℝ) : EReal)) : ev160 N (ix2 r k) = ((((sB f : ℤ) - 127 : ℤ) : ℝ) : EReal) := by
  rw [← expo_eq, ← h]
  unfold ev160
  pointwise
/-- The exponent of a group. -/
theorem ex160 (G : FVec Ideal S24064x160x32 .f32) (v : ℕ → EReal) (r : Fin 24064) (k : Fin 160) (h : ∀ i : Fin 32, G (ix3 r k i) = v (32 * k.val + i.val)) :
    ev160 (ct160 (mx160 G)) (ix2 r k) = ((((sB (gfN v k.val) : ℤ) - 127 : ℤ) : ℝ) : EReal) := by
  refine ev160_apply _ _ r k ((ct160_apply _ r k).trans ?_)
  rw [mx160_apply G r k, max_eq _ (fun j => v (32 * k.val + j)) h]
  rfl
/-- The exponents of the normalised row. -/
theorem pay21_eq (p q : Vec Ideal S1280 .f32) (v : FVec Ideal S24064x1280 .f32) : k0_pay21 (F := Ideal) p q v = ev40 (ct40 (mx40 (k0_pay20 (F := Ideal) p q v))) := rfl
/-- The exponents of the activation. -/
theorem pay37_eq (a b : FVec Ideal S24064x2560 .f32) (u : Vec Ideal S5120 .f32) : k0_pay37 (F := Ideal) a b u = ev160 (ct160 (mx160 (k0_pay36 (F := Ideal) a b u))) := rfl
/-- The normalised row, scaled down. -/
theorem pay22_at (p q : Vec Ideal S1280 .f32) (v : FVec Ideal S24064x1280 .f32) (r : Fin 24064) (k : Fin 40) (i : Fin 32) :
    k0_pay22 (F := Ideal) p q v (ix3 r k i) = k0_pay20 (F := Ideal) p q v (ix3 r k i) * (FloatOps.exp2 (F := Ideal) (φ := .f32) (0 - k0_pay21 (F := Ideal) p q v (ix2 r k) : EReal) : EReal) := by
  unfold k0_pay22
  generalize k0_pay20 (F := Ideal) p q v = G
  generalize k0_pay21 (F := Ideal) p q v = E
  pointwise
/-- The activation, scaled down and bounded below. -/
theorem pay38_at (a b : FVec Ideal S24064x2560 .f32) (u : Vec Ideal S5120 .f32) (r : Fin 24064) (k : Fin 160) (i : Fin 32) :
    k0_pay38 (F := Ideal) a b u (ix3 r k i) = max (Ideal.ofBits .f32 0xC3E00000#32) (k0_pay36 (F := Ideal) a b u (ix3 r k i) * (FloatOps.exp2 (F := Ideal) (φ := .f32) (0 - k0_pay37 (F := Ideal) a b u (ix2 r k) : EReal) : EReal)) := by
  unfold k0_pay38
  generalize k0_pay36 (F := Ideal) a b u = G
  generalize k0_pay37 (F := Ideal) a b u = E
  pointwise
/-- The clipped codes of the 1280-wide stage, at one column. -/
theorem pay24_at (v : FVec Ideal S24064x40x32 .f32) (a b : EReal) (r : Fin 24064) (c : Fin 1280) :
    k0_pay24 (F := Ideal) v a b (ix2 r c) = min b (max a (v (ix3 r ⟨c.val / 32, by omega⟩ ⟨c.val % 32, by omega⟩))) := by
  pointwise [k0_pay24, k0_pay23]
/-- The clipped codes of the 5120-wide stage, at one column. -/
theorem pay40_at (v : FVec Ideal S24064x160x32 .f32) (b : EReal) (r : Fin 24064) (c : Fin 5120) :
    k0_pay40 (F := Ideal) b v (ix2 r c) = min b (v (ix3 r ⟨c.val / 32, by omega⟩ ⟨c.val % 32, by omega⟩)) := by
  pointwise [k0_pay40, k0_pay39]
/-- The codes times their scale in the 1280-wide stage, at one column. -/
theorem pay26_at (e : FVec Ideal S24064x40 .f32) (v : FVec Ideal S24064x40x32 .f32) (a b : EReal) (r : Fin 24064) (c : Fin 1280) :
    k0_pay26 (F := Ideal) e v a b (ix2 r c) = min b (max a (v (ix3 r ⟨c.val / 32, by omega⟩ ⟨c.val % 32, by omega⟩))) * (FloatOps.exp2 (F := Ideal) (φ := .f32) (e (ix2 r ⟨c.val / 32, by omega⟩)) : EReal) := by
  pointwise [k0_pay26, k0_pay23]
/-- The codes times their scale in the 5120-wide stage, at one column. -/
theorem pay42_at (e : FVec Ideal S24064x160 .f32) (v : FVec Ideal S24064x160x32 .f32) (b : EReal) (r : Fin 24064) (c : Fin 5120) :
    k0_pay42 (F := Ideal) e b v (ix2 r c) = min b (v (ix3 r ⟨c.val / 32, by omega⟩ ⟨c.val % 32, by omega⟩)) * (FloatOps.exp2 (F := Ideal) (φ := .f32) (e (ix2 r ⟨c.val / 32, by omega⟩)) : EReal) := by
  pointwise [k0_pay42, k0_pay39]
/-- The scale byte of the 1280-wide stage, at one group. -/
theorem pay25_at (e : FVec Ideal S24064x40 .f32) (f : ℕ) (hf : f ≤ 252) (r : Fin 24064) (c : Fin 40) (h : e (ix2 r c) = ((((sB f : ℤ) - 127 : ℤ) : ℝ) : EReal)) :
    k0_pay25 (F := Ideal) e (ix2 r c) = BitVec.ofNat 8 (sB f) := by
  rw [← byte_eq f hf, ← h]
  pointwise [k0_pay25]
/-- The scale byte of the 5120-wide stage, at one group. -/
theorem pay41_at (e : FVec Ideal S24064x160 .f32) (f : ℕ) (hf : f ≤ 252) (r : Fin 24064) (c : Fin 160) (h : e (ix2 r c) = ((((sB f : ℤ) - 127 : ℤ) : ℝ) : EReal)) :
    k0_pay41 (F := Ideal) e (ix2 r c) = BitVec.ofNat 8 (sB f) := by
  rw [← byte_eq f hf, ← h]
  pointwise [k0_pay41]
/-- The normalised row. -/
theorem pay20_at (p q : Vec Ideal S1280 .f32) (v : FVec Ideal S24064x1280 .f32) (r : Fin 24064) (k : Fin 40) (i : Fin 32) :
    k0_pay20 (F := Ideal) p q v (ix3 r k i) = Ideal.div (v (ix2 r ⟨k.val * 32 + i.val, by omega⟩)) (Ideal.sqrt (Ideal.div (∑ x : Fin 1280, v (ix2 r x) * v (ix2 r x)) (Ideal.ofBits .f32 0x44A00000#32) + Ideal.ofBits .f32 0x3727C5AC#32))
      * p (ix1 ⟨k.val * 32 + i.val, by omega⟩) + q (ix1 ⟨k.val * 32 + i.val, by omega⟩) := by
  pointwise [k0_pay20]
/-- The activation. -/
theorem pay36_at (a b : FVec Ideal S24064x2560 .f32) (u : Vec Ideal S5120 .f32) (r : Fin 24064) (k : Fin 160) (i : Fin 32) :
    k0_pay36 (F := Ideal) a b u (ix3 r k i) = gelu ((if h : k.val * 32 + i.val < 2560 then a (ix2 r ⟨k.val * 32 + i.val, h⟩) else b (ix2 r ⟨k.val * 32 + i.val - 2560, by omega⟩)) + u (ix1 ⟨k.val * 32 + i.val, by omega⟩)) := by
  unfold gelu
  rw [show Ideal.ofBits .f32 0x3F800000#32 = 1 by simp [Ideal.ofBits, Ideal.ieee, -EReal.coe_mul]; norm_num]
  pointwise [k0_pay36]
  rfl
end Mx
-- ==== Proof.RStage.lean ====
/- The reference's stages, each from what the stage before it holds. -/
module

public import proofs.«01_k».proof.Proof.RDense
public import proofs.«01_k».proof.Proof.RWeights
public import proofs.«01_k».proof.Proof.RQuant
import Idealize.ShloMosaic.Lib.Pointwise

@[expose] public section
set_option maxRecDepth 16384
noncomputable section
namespace Mx
open Idealize.ShloMosaic Idealize.ShloMosaic.TcCoe Cert.ReferenceIdeal Cert.ReferenceIdeal.Gen

/-- A row number split at 32 and put together again. -/
theorem back (n : ℕ) : n / 32 * 32 + n % 32 = n := by omega
/-- The deviation from the mean, of a whole array. -/
def dvv (H : FVec Ideal S24064x1280 .f32) : FVec Ideal S24064x1280 .f32 :=
  subf H (broadcastTo S24064x1280 (divf (shapeCast S24064x1 (multiReduction .add [1] S24064 H 0x00000000#32 reduces_S24064x1280_S24064 (.inl rfl) rfl) shapeCasts_S24064_S24064x1) (broadcast S24064x1 (Scalar.ofBits .f32 0x44A00000#32))) broadcasts_S24064x1_S24064x1280)
/-- It at an entry. -/
theorem dvv_apply (H : FVec Ideal S24064x1280 .f32) (r : Fin 24064) (c : Fin 1280) : dvv H (ix2 r c) = H (ix2 r c) - Ideal.div (∑ x : Fin 1280, H (ix2 r x)) (Ideal.ofBits .f32 0x44A00000#32) := by
  unfold dvv
  pointwise
/-- The deviation from the mean. -/
theorem st_dv (D : Dat) (H : FVec Ideal S24064x1280 .f32) (h : ∀ (r : Fin 24064) (c : Fin 1280), H (ix2 r c) = D.h1 r.val c.val) (r : Fin 24064) (c : Fin 1280) : dvv H (ix2 r c) = D.dv r.val c.val := by
  rw [dvv_apply]
  simp only [h]
  rfl
/-- The first residual stream. -/
theorem st_h1 (D : Dat) (x0 x1 : FVec Ideal S24064x1280 .bf16) (x2 : Vec Ideal S1280x640 .i8) (x3 : Vec Ideal S40x1280 .i8) (x4 : FVec Ideal S1280 .f32)
    (ha : ∀ (r : Fin 24064) (c : Fin 1280), x0 (ix2 r c) = D.aw r.val c.val) (hx : ∀ (r : Fin 24064) (c : Fin 1280), x1 (ix2 r c) = D.x r.val c.val)
    (hw : ∀ (k c : Fin 1280), D.wo k.val c.val = (if h : c.val < 640 then nv (lo8 (x2 (ix2 k ⟨c.val, h⟩))) else nv (hi8 (x2 (ix2 k ⟨c.val - 640, by omega⟩)))) * scl (x3 (ix2 ⟨k.val / 32, by omega⟩ c)))
    (hb : ∀ c : Fin 1280, x4 (ix1 c) = D.bo c.val) (r : Fin 24064) (c : Fin 1280) :
    k0_pay18 (F := Ideal) (k0_pay3 (F := Ideal) x1) x0 (k0_pay5 (F := Ideal) x3) (k0_pay12 (F := Ideal) (k0_pay5 (F := Ideal) x3) (k0_pay7 (F := Ideal) x2) (k0_pay8 (F := Ideal) x2) (k0_pay9 (F := Ideal) x2) (k0_pay10 (F := Ideal) x2) k0_pay11)
      (k0_pay14 (k0_pay4 (F := Ideal) x2)) (k0_pay15 (k0_pay4 (F := Ideal) x2)) (k0_pay16 (k0_pay4 (F := Ideal) x2)) (k0_pay17 (k0_pay4 (F := Ideal) x2)) x4 (ix2 r c) = D.h1 r.val c.val := by
  rw [r_h1]
  unfold Dat.h1
  refine congrArg₂ (fun a b : EReal => a + b) (hx r c) (congrArg₂ (fun a b : EReal => a + b) ?_ (hb c))
  by_cases h : c.val < 640
  · rw [dif_pos h]
    refine Finset.sum_congr rfl fun k _ => ?_
    rw [hw k c, dif_pos h, r_lo12, r_scl5, ha]
    simp only [back]
  · rw [dif_neg h]
    refine Finset.sum_congr rfl fun k _ => ?_
    rw [hw k c, dif_neg h, r_scl5, ha]
    simp only [Nat.add_sub_cancel' (Nat.le_of_not_lt h)]
/-- The normalised row. -/
theorem st_ln (D : Dat) (p q : Vec Ideal S1280 .f32) (v : FVec Ideal S24064x1280 .f32) (hv : ∀ (r : Fin 24064) (c : Fin 1280), v (ix2 r c) = D.dv r.val c.val)
    (hp : ∀ c : Fin 1280, p (ix1 c) = D.g c.val) (hq : ∀ c : Fin 1280, q (ix1 c) = D.b c.val) (r : Fin 24064) (k : Fin 40) (i : Fin 32) :
    k0_pay20 (F := Ideal) p q v (ix3 r k i) = D.ln r.val (32 * k.val + i.val) := by
  rw [pay20_at, Nat.mul_comm 32]
  simp only [hv, hp, hq]
  rfl
/-- The exponent of a group. -/
theorem st_e1 (D : Dat) (p q : Vec Ideal S1280 .f32) (v : FVec Ideal S24064x1280 .f32) (hl : ∀ (r : Fin 24064) (k : Fin 40) (i : Fin 32), k0_pay20 (F := Ideal) p q v (ix3 r k i) = D.ln r.val (32 * k.val + i.val)) (r : Fin 24064) (k : Fin 40) :
    k0_pay21 (F := Ideal) p q v (ix2 r k) = ((((sB (gfN (D.ln r.val) k.val) : ℤ) - 127 : ℤ) : ℝ) : EReal) := by
  rw [pay21_eq]
  exact ex40 _ (D.ln r.val) r k (hl r k)
/-- The numbers of a group, scaled down. -/
theorem st_g1 (D : Dat) (p q : Vec Ideal S1280 .f32) (v : FVec Ideal S24064x1280 .f32) (hl : ∀ (r : Fin 24064) (k : Fin 40) (i : Fin 32), k0_pay20 (F := Ideal) p q v (ix3 r k i) = D.ln r.val (32 * k.val + i.val)) (r : Fin 24064) (k : Fin 40) (i : Fin 32) :
    k0_pay22 (F := Ideal) p q v (ix3 r k i) = (D.ln r.val (32 * k.val + i.val) * pw (127 - sB (gfN (D.ln r.val) k.val))) := by
  rw [pay22_at, hl, st_e1 D p q v hl, down_eq]
/-- The codes. -/
theorem st_c1 (D : Dat) (p q : Vec Ideal S1280 .f32) (v : FVec Ideal S24064x1280 .f32) (hl : ∀ (r : Fin 24064) (k : Fin 40) (i : Fin 32), k0_pay20 (F := Ideal) p q v (ix3 r k i) = D.ln r.val (32 * k.val + i.val)) (r : Fin 24064) (c : Fin 1280) :
    k0_pay24 (F := Ideal) (k0_pay22 (F := Ideal) p q v) (Scalar.ofBits (F := Ideal) .f32 0xC3E00000#32) (Scalar.ofBits (F := Ideal) .f32 0x43E00000#32) (ix2 r c) = D.c2 r.val c.val := by
  rw [pay24_at, st_g1 D p q v hl]
  show min _ (max _ (D.ln r.val (32 * (c.val / 32) + c.val % 32) * _)) = _
  rw [Nat.div_add_mod]
  rfl
/-- The scale bytes. -/
theorem st_s1 (D : Dat) (p q : Vec Ideal S1280 .f32) (v : FVec Ideal S24064x1280 .f32) (hl : ∀ (r : Fin 24064) (k : Fin 40) (i : Fin 32), k0_pay20 (F := Ideal) p q v (ix3 r k i) = D.ln r.val (32 * k.val + i.val)) (r : Fin 24064) (k : Fin 40) :
    k0_pay25 (F := Ideal) (k0_pay21 (F := Ideal) p q v) (ix2 r k) = D.s2 r.val k.val :=
  pay25_at _ _ (gfN_le _ _) r k (st_e1 D p q v hl r k)
/-- The codes times their scales. -/
theorem st_w1 (D : Dat) (p q : Vec Ideal S1280 .f32) (v : FVec Ideal S24064x1280 .f32) (hl : ∀ (r : Fin 24064) (k : Fin 40) (i : Fin 32), k0_pay20 (F := Ideal) p q v (ix3 r k i) = D.ln r.val (32 * k.val + i.val)) (r : Fin 24064) (c : Fin 1280) :
    k0_pay26 (F := Ideal) (k0_pay21 (F := Ideal) p q v) (k0_pay22 (F := Ideal) p q v) (Scalar.ofBits (F := Ideal) .f32 0xC3E00000#32) (Scalar.ofBits (F := Ideal) .f32 0x43E00000#32) (ix2 r c) = D.lw r.val c.val := by
  rw [pay26_at, st_g1 D p q v hl, st_e1 D p q v hl, up_eq]
  show min _ (max _ (D.ln r.val (32 * (c.val / 32) + c.val % 32) * _)) * _ = _
  rw [Nat.div_add_mod]
  rfl
/-- The exponent of a group. -/
theorem st_e2 (D : Dat) (p q : FVec Ideal S24064x2560 .f32) (v : Vec Ideal S5120 .f32) (hl : ∀ (r : Fin 24064) (k : Fin 160) (i : Fin 32), k0_pay36 (F := Ideal) p q v (ix3 r k i) = D.f r.val (32 * k.val + i.val)) (r : Fin 24064) (k : Fin 160) :
    k0_pay37 (F := Ideal) p q v (ix2 r k) = ((((sB (gfN (D.f r.val) k.val) : ℤ) - 127 : ℤ) : ℝ) : EReal) := by
  rw [pay37_eq]
  exact ex160 _ (D.f r.val) r k (hl r k)
/-- The numbers of a group, scaled down. -/
theorem st_g2 (D : Dat) (p q : FVec Ideal S24064x2560 .f32) (v : Vec Ideal S5120 .f32) (hl : ∀ (r : Fin 24064) (k : Fin 160) (i : Fin 32), k0_pay36 (F := Ideal) p q v (ix3 r k i) = D.f r.val (32 * k.val + i.val)) (r : Fin 24064) (k : Fin 160) (i : Fin 32) :
    k0_pay38 (F := Ideal) p q v (ix3 r k i) = max (Ideal.ofBits .f32 0xC3E00000#32) (D.f r.val (32 * k.val + i.val) * pw (127 - sB (gfN (D.f r.val) k.val))) := by
  rw [pay38_at, hl, st_e2 D p q v hl, down_eq]
/-- The codes. -/
theorem st_c2 (D : Dat) (p q : FVec Ideal S24064x2560 .f32) (v : Vec Ideal S5120 .f32) (hl : ∀ (r : Fin 24064) (k : Fin 160) (i : Fin 32), k0_pay36 (F := Ideal) p q v (ix3 r k i) = D.f r.val (32 * k.val + i.val)) (r : Fin 24064) (c : Fin 5120) :
    k0_pay40 (F := Ideal) (Scalar.ofBits (F := Ideal) .f32 0x43E00000#32) (k0_pay38 (F := Ideal) p q v) (ix2 r c) = D.ca r.val c.val := by
  rw [pay40_at, st_g2 D p q v hl]
  show min _ (max _ (D.f r.val (32 * (c.val / 32) + c.val % 32) * _)) = _
  rw [Nat.div_add_mod]
  rfl
/-- The scale bytes. -/
theorem st_s2 (D : Dat) (p q : FVec Ideal S24064x2560 .f32) (v : Vec Ideal S5120 .f32) (hl : ∀ (r : Fin 24064) (k : Fin 160) (i : Fin 32), k0_pay36 (F := Ideal) p q v (ix3 r k i) = D.f r.val (32 * k.val + i.val)) (r : Fin 24064) (k : Fin 160) :
    k0_pay41 (F := Ideal) (k0_pay37 (F := Ideal) p q v) (ix2 r k) = D.sa r.val k.val :=
  pay41_at _ _ (gfN_le _ _) r k (st_e2 D p q v hl r k)
/-- The codes times their scales. -/
theorem st_w2 (D : Dat) (p q : FVec Ideal S24064x2560 .f32) (v : Vec Ideal S5120 .f32) (hl : ∀ (r : Fin 24064) (k : Fin 160) (i : Fin 32), k0_pay36 (F := Ideal) p q v (ix3 r k i) = D.f r.val (32 * k.val + i.val)) (r : Fin 24064) (c : Fin 5120) :
    k0_pay42 (F := Ideal) (k0_pay37 (F := Ideal) p q v) (Scalar.ofBits (F := Ideal) .f32 0x43E00000#32) (k0_pay38 (F := Ideal) p q v) (ix2 r c) = D.fw r.val c.val := by
  rw [pay42_at, st_g2 D p q v hl, st_e2 D p q v hl, up_eq]
  show min _ (max _ (D.f r.val (32 * (c.val / 32) + c.val % 32) * _)) * _ = _
  rw [Nat.div_add_mod]
  rfl
/-- The activation. -/
theorem st_f (D : Dat) (a : FVec Ideal S24064x1280 .bf16) (x7 : Vec Ideal S1280x2560 .i8) (x8 : Vec Ideal S40x5120 .i8) (x9 : Vec Ideal S5120 .f32)
    (ha : ∀ (r : Fin 24064) (c : Fin 1280), a (ix2 r c) = D.lw r.val c.val)
    (hw : ∀ (k : Fin 1280) (c : Fin 5120), D.w1 k.val c.val = (if h : c.val < 2560 then nv (lo8 (x7 (ix2 k ⟨c.val, h⟩))) else nv (hi8 (x7 (ix2 k ⟨c.val - 2560, by omega⟩)))) * scl (x8 (ix2 ⟨k.val / 32, by omega⟩ c)))
    (hb : ∀ c : Fin 5120, x9 (ix1 c) = D.b1 c.val) (r : Fin 24064) (k : Fin 160) (i : Fin 32) :
    k0_pay36 (F := Ideal) (k0_pay34 (F := Ideal) a (k0_pay31 (F := Ideal) (k0_pay28 (F := Ideal) x8) (k0_pay29 (F := Ideal) x7) (k0_pay30 (F := Ideal) x7) 0#32))
      (k0_pay35 (F := Ideal) a (k0_pay28 (F := Ideal) x8) (k0_pay32 (k0_pay27 (F := Ideal) x7)) k0_pay33) x9 (ix3 r k i) = D.f r.val (32 * k.val + i.val) := by
  rw [pay36_at, Nat.mul_comm 32, hb]
  unfold Dat.f Dat.pre
  refine congrArg (fun a : EReal => gelu (a + D.b1 (k.val * 32 + i.val))) ?_
  by_cases h : k.val * 32 + i.val < 2560
  · rw [dif_pos h, r_p1]
    refine Finset.sum_congr rfl fun x _ => ?_
    rw [hw x ⟨k.val * 32 + i.val, by omega⟩, dif_pos h, r_lo31, r_scl28, ha]
    simp only [back]
  · rw [dif_neg h, r_p2]
    refine Finset.sum_congr rfl fun x _ => ?_
    rw [hw x ⟨k.val * 32 + i.val, by omega⟩, dif_neg h, r_scl28, ha]
    simp only [Nat.add_sub_cancel' (Nat.le_of_not_lt h)]
/-- The second residual stream, at full width. -/
theorem pay1_at (a b : FVec Ideal S24064x1280 .f32) (u : Vec Ideal S1280 .f32) (r : Fin 24064) (c : Fin 1280) : k0_pay1 (F := Ideal) a b u (ix2 r c) = a (ix2 r c) + (b (ix2 r c) + u (ix1 c)) := by
  pointwise [k0_pay1]
/-- The second residual stream. -/
theorem st_h2 (D : Dat) (H : FVec Ideal S24064x1280 .f32) (a : FVec Ideal S24064x5120 .bf16) (x10 : Vec Ideal S5120x640 .i8) (x11 : Vec Ideal S160x1280 .i8) (x12 : Vec Ideal S1280 .f32)
    (hh : ∀ (r : Fin 24064) (c : Fin 1280), H (ix2 r c) = D.h1 r.val c.val) (ha : ∀ (r : Fin 24064) (c : Fin 5120), a (ix2 r c) = D.fw r.val c.val)
    (hw : ∀ (k : Fin 5120) (c : Fin 1280), D.w2 k.val c.val = (if h : c.val < 640 then nv (lo8 (x10 (ix2 k ⟨c.val, h⟩))) else nv (hi8 (x10 (ix2 k ⟨c.val - 640, by omega⟩)))) * scl (x11 (ix2 ⟨k.val / 32, by omega⟩ c)))
    (hb : ∀ c : Fin 1280, x12 (ix1 c) = D.b2 c.val) (r : Fin 24064) (c : Fin 1280) :
    k0_pay1 (F := Ideal) H (k0_pay50 (F := Ideal) a (k0_pay44 (F := Ideal) x11) (k0_pay47 (F := Ideal) (k0_pay44 (F := Ideal) x11) (k0_pay45 (F := Ideal) x10) (k0_pay46 (F := Ideal) x10))
      (k0_pay48 (k0_pay43 (F := Ideal) x10)) (k0_pay49 (k0_pay43 (F := Ideal) x10)) 0#32) x12 (ix2 r c) = D.h2 r.val c.val := by
  rw [pay1_at, r_p3, hh, hb]
  unfold Dat.h2
  refine congrArg (fun a : EReal => D.h1 r.val c.val + (a + D.b2 c.val)) ?_
  by_cases h : c.val < 640
  · rw [dif_pos h]
    refine Finset.sum_congr rfl fun k _ => ?_
    rw [hw k c, dif_pos h, r_lo47, r_scl44, ha]
    simp only [back]
  · rw [dif_neg h]
    refine Finset.sum_congr rfl fun k _ => ?_
    rw [hw k c, dif_neg h, r_scl44, ha]
    simp only [Nat.add_sub_cancel' (Nat.le_of_not_lt h)]
end Mx
-- ==== Proof.ROut.lean ====
/- The reference's results as functions of its inputs. -/
module

public import proofs.«01_k».proof.Proof.RStage
import Idealize.ShloMosaic.Lib.Pointwise

@[expose] public section
set_option maxRecDepth 16384
noncomputable section
namespace Mx
open Idealize.ShloMosaic Idealize.ShloMosaic.TcCoe Cert.ReferenceIdeal Cert.ReferenceIdeal.Gen

/-- A whole load reads the contents. -/
theorem ld0 {e : EltTy} (x : Vec Ideal S24064x1280 e) : View.ld (Val := Elt Ideal) x r0_0 = x := View.ld_unit_zero (by decide) _ x
/-- A whole load reads the contents. -/
theorem ld1 {e : EltTy} (x : Vec Ideal S1280x640 e) : View.ld (Val := Elt Ideal) x r0_1 = x := View.ld_unit_zero (by decide) _ x
/-- A whole load reads the contents. -/
theorem ld2 {e : EltTy} (x : Vec Ideal S40x1280 e) : View.ld (Val := Elt Ideal) x r0_2 = x := View.ld_unit_zero (by decide) _ x
/-- A whole load reads the contents. -/
theorem ld3 {e : EltTy} (x : Vec Ideal S1280 e) : View.ld (Val := Elt Ideal) x r0_3 = x := View.ld_unit_zero (by decide) _ x
/-- A whole load reads the contents. -/
theorem ld5 {e : EltTy} (x : Vec Ideal S1280x2560 e) : View.ld (Val := Elt Ideal) x r0_5 = x := View.ld_unit_zero (by decide) _ x
/-- A whole load reads the contents. -/
theorem ld6 {e : EltTy} (x : Vec Ideal S40x5120 e) : View.ld (Val := Elt Ideal) x r0_6 = x := View.ld_unit_zero (by decide) _ x
/-- A whole load reads the contents. -/
theorem ld7 {e : EltTy} (x : Vec Ideal S5120 e) : View.ld (Val := Elt Ideal) x r0_7 = x := View.ld_unit_zero (by decide) _ x
/-- A whole load reads the contents. -/
theorem ld10 {e : EltTy} (x : Vec Ideal S5120x640 e) : View.ld (Val := Elt Ideal) x r0_10 = x := View.ld_unit_zero (by decide) _ x
/-- A whole load reads the contents. -/
theorem ld11 {e : EltTy} (x : Vec Ideal S160x1280 e) : View.ld (Val := Elt Ideal) x r0_11 = x := View.ld_unit_zero (by decide) _ x
variable (x0 : Vec Ideal S24064x1280 .bf16) (x1 : Vec Ideal S24064x1280 .bf16) (x2 : Vec Ideal S1280x640 .i8) (x3 : Vec Ideal S40x1280 .i8) (x4 : Vec Ideal S1280 .f32) (x5 : Vec Ideal S1280 .f32) (x6 : Vec Ideal S1280 .f32) (x7 : Vec Ideal S1280x2560 .i8) (x8 : Vec Ideal S40x5120 .i8) (x9 : Vec Ideal S5120 .f32) (x10 : Vec Ideal S5120x640 .i8) (x11 : Vec Ideal S160x1280 .i8) (x12 : Vec Ideal S1280 .f32)
/-- The inputs by row and column. -/
def RD : Dat := mkDat x0 x1 x2 x3 x4 x5 x6 x7 x8 x9 x10 x11 x12
/-- An input at an entry. -/
theorem e_aw (r : Fin 24064) (c : Fin 1280) : x0 (ix2 r c) = (RD x0 x1 x2 x3 x4 x5 x6 x7 x8 x9 x10 x11 x12).aw r.val c.val := (at2_eq (α := EReal) x0 r.isLt c.isLt).symm
/-- An input at an entry. -/
theorem e_x (r : Fin 24064) (c : Fin 1280) : x1 (ix2 r c) = (RD x0 x1 x2 x3 x4 x5 x6 x7 x8 x9 x10 x11 x12).x r.val c.val := (at2_eq (α := EReal) x1 r.isLt c.isLt).symm
/-- An input at an entry. -/
theorem e_bo (c : Fin 1280) : x4 (ix1 c) = (RD x0 x1 x2 x3 x4 x5 x6 x7 x8 x9 x10 x11 x12).bo c.val := (at1_eq (α := EReal) x4 c.isLt).symm
/-- An input at an entry. -/
theorem e_g (c : Fin 1280) : x5 (ix1 c) = (RD x0 x1 x2 x3 x4 x5 x6 x7 x8 x9 x10 x11 x12).g c.val := (at1_eq (α := EReal) x5 c.isLt).symm
/-- An input at an entry. -/
theorem e_b (c : Fin 1280) : x6 (ix1 c) = (RD x0 x1 x2 x3 x4 x5 x6 x7 x8 x9 x10 x11 x12).b c.val := (at1_eq (α := EReal) x6 c.isLt).symm
/-- An input at an entry. -/
theorem e_b1 (c : Fin 5120) : x9 (ix1 c) = (RD x0 x1 x2 x3 x4 x5 x6 x7 x8 x9 x10 x11 x12).b1 c.val := (at1_eq (α := EReal) x9 c.isLt).symm
/-- An input at an entry. -/
theorem e_b2 (c : Fin 1280) : x12 (ix1 c) = (RD x0 x1 x2 x3 x4 x5 x6 x7 x8 x9 x10 x11 x12).b2 c.val := (at1_eq (α := EReal) x12 c.isLt).symm
/-- An input at an entry. -/
theorem e_wo (k : Fin 1280) (c : Fin 1280) : (RD x0 x1 x2 x3 x4 x5 x6 x7 x8 x9 x10 x11 x12).wo k.val c.val = (if h : c.val < 640 then nv (lo8 (x2 (ix2 k ⟨c.val, h⟩))) else nv (hi8 (x2 (ix2 k ⟨c.val - 640, by omega⟩)))) * scl (x3 (ix2 ⟨k.val / 32, by omega⟩ c)) := dense_eq (H := 640) rfl x2 x3 k c _
/-- An input at an entry. -/
theorem e_w1 (k : Fin 1280) (c : Fin 5120) : (RD x0 x1 x2 x3 x4 x5 x6 x7 x8 x9 x10 x11 x12).w1 k.val c.val = (if h : c.val < 2560 then nv (lo8 (x7 (ix2 k ⟨c.val, h⟩))) else nv (hi8 (x7 (ix2 k ⟨c.val - 2560, by omega⟩)))) * scl (x8 (ix2 ⟨k.val / 32, by omega⟩ c)) := dense_eq (H := 2560) rfl x7 x8 k c _
/-- An input at an entry. -/
theorem e_w2 (k : Fin 5120) (c : Fin 1280) : (RD x0 x1 x2 x3 x4 x5 x6 x7 x8 x9 x10 x11 x12).w2 k.val c.val = (if h : c.val < 640 then nv (lo8 (x10 (ix2 k ⟨c.val, h⟩))) else nv (hi8 (x10 (ix2 k ⟨c.val - 640, by omega⟩)))) * scl (x11 (ix2 ⟨k.val / 32, by omega⟩ c)) := dense_eq (H := 640) rfl x10 x11 k c _
/-- The first residual stream. -/
theorem o_h1 (r : Fin 24064) (c : Fin 1280) : k0_pay59 (F := Ideal) x0 x1 x2 x3 x4 x5 x6 x7 x8 x9 x10 x11 x12 (ix2 r c) = (RD x0 x1 x2 x3 x4 x5 x6 x7 x8 x9 x10 x11 x12).h1 r.val c.val := by
  unfold k0_pay59 k0_pay51 k0_pay53 k0_pay54 k0_pay55 k0_pay56 k0_pay57 k0_pay58 k0_pay53 k0_pay52
  rw [ld0, ld0, ld1, ld2, ld3]
  exact st_h1 (RD x0 x1 x2 x3 x4 x5 x6 x7 x8 x9 x10 x11 x12) x0 x1 x2 x3 x4 (e_aw x0 x1 x2 x3 x4 x5 x6 x7 x8 x9 x10 x11 x12) (e_x x0 x1 x2 x3 x4 x5 x6 x7 x8 x9 x10 x11 x12) (e_wo x0 x1 x2 x3 x4 x5 x6 x7 x8 x9 x10 x11 x12) (e_bo x0 x1 x2 x3 x4 x5 x6 x7 x8 x9 x10 x11 x12) r c
/-- The deviation from the mean is taken of the first residual stream. -/
theorem o_dv' : k0_pay60 (F := Ideal) x0 x1 x2 x3 x4 x5 x6 x7 x8 x9 x10 x11 x12 = dvv (k0_pay59 (F := Ideal) x0 x1 x2 x3 x4 x5 x6 x7 x8 x9 x10 x11 x12) := rfl
/-- The deviation from the mean. -/
theorem o_dv (r : Fin 24064) (c : Fin 1280) : k0_pay60 (F := Ideal) x0 x1 x2 x3 x4 x5 x6 x7 x8 x9 x10 x11 x12 (ix2 r c) = (RD x0 x1 x2 x3 x4 x5 x6 x7 x8 x9 x10 x11 x12).dv r.val c.val := by
  rw [o_dv']
  exact st_dv (RD x0 x1 x2 x3 x4 x5 x6 x7 x8 x9 x10 x11 x12) _ (o_h1 x0 x1 x2 x3 x4 x5 x6 x7 x8 x9 x10 x11 x12) r c
/-- The normalised row. -/
theorem o_ln (r : Fin 24064) (k : Fin 40) (i : Fin 32) : k0_pay20 (F := Ideal) x5 x6 (k0_pay60 (F := Ideal) x0 x1 x2 x3 x4 x5 x6 x7 x8 x9 x10 x11 x12) (ix3 r k i) = (RD x0 x1 x2 x3 x4 x5 x6 x7 x8 x9 x10 x11 x12).ln r.val (32 * k.val + i.val) :=
  st_ln (RD x0 x1 x2 x3 x4 x5 x6 x7 x8 x9 x10 x11 x12) x5 x6 _ (o_dv x0 x1 x2 x3 x4 x5 x6 x7 x8 x9 x10 x11 x12) (e_g x0 x1 x2 x3 x4 x5 x6 x7 x8 x9 x10 x11 x12) (e_b x0 x1 x2 x3 x4 x5 x6 x7 x8 x9 x10 x11 x12) r k i
/-- The codes of the normalised row. -/
theorem o_c2 (r : Fin 24064) (c : Fin 1280) : out0_13 (F := Ideal) x0 x1 x2 x3 x4 x5 x6 x7 x8 x9 x10 x11 x12 (ix2 r c) = (RD x0 x1 x2 x3 x4 x5 x6 x7 x8 x9 x10 x11 x12).c2 r.val c.val := by
  unfold out0_13
  rw [View.canon_unit_zero (by decide)]
  unfold k0_pay62
  rw [ld3, ld3]
  exact st_c1 (RD x0 x1 x2 x3 x4 x5 x6 x7 x8 x9 x10 x11 x12) x5 x6 _ (o_ln x0 x1 x2 x3 x4 x5 x6 x7 x8 x9 x10 x11 x12) r c
/-- Its scale bytes. -/
theorem o_s2 (r : Fin 24064) (c : Fin 40) : out0_14 (F := Ideal) x0 x1 x2 x3 x4 x5 x6 x7 x8 x9 x10 x11 x12 (ix2 r c) = (RD x0 x1 x2 x3 x4 x5 x6 x7 x8 x9 x10 x11 x12).s2 r.val c.val := by
  unfold out0_14
  rw [View.canon_unit_zero (by decide)]
  unfold k0_pay61
  rw [ld3, ld3]
  exact st_s1 (RD x0 x1 x2 x3 x4 x5 x6 x7 x8 x9 x10 x11 x12) x5 x6 _ (o_ln x0 x1 x2 x3 x4 x5 x6 x7 x8 x9 x10 x11 x12) r c
/-- Its codes times their scales. -/
theorem o_lw (r : Fin 24064) (c : Fin 1280) : k0_pay63 (F := Ideal) x0 x1 x2 x3 x4 x5 x6 x7 x8 x9 x10 x11 x12 (ix2 r c) = (RD x0 x1 x2 x3 x4 x5 x6 x7 x8 x9 x10 x11 x12).lw r.val c.val := by
  unfold k0_pay63 k0_pay61 k0_pay62
  rw [ld3, ld3]
  exact st_w1 (RD x0 x1 x2 x3 x4 x5 x6 x7 x8 x9 x10 x11 x12) x5 x6 _ (o_ln x0 x1 x2 x3 x4 x5 x6 x7 x8 x9 x10 x11 x12) r c
/-- The activation. -/
theorem o_f (r : Fin 24064) (k : Fin 160) (i : Fin 32) : k0_pay36 (F := Ideal) (k0_pay65 (F := Ideal) x0 x1 x2 x3 x4 x5 x6 x7 x8 x9 x10 x11 x12) (k0_pay66 (F := Ideal) x0 x1 x2 x3 x4 x5 x6 x7 x8 x9 x10 x11 x12) x9 (ix3 r k i) = (RD x0 x1 x2 x3 x4 x5 x6 x7 x8 x9 x10 x11 x12).f r.val (32 * k.val + i.val) := by
  unfold k0_pay65 k0_pay66 k0_pay64
  rw [ld5, ld6]
  exact st_f (RD x0 x1 x2 x3 x4 x5 x6 x7 x8 x9 x10 x11 x12) _ x7 x8 x9 (o_lw x0 x1 x2 x3 x4 x5 x6 x7 x8 x9 x10 x11 x12) (e_w1 x0 x1 x2 x3 x4 x5 x6 x7 x8 x9 x10 x11 x12) (e_b1 x0 x1 x2 x3 x4 x5 x6 x7 x8 x9 x10 x11 x12) r k i
/-- Its codes. -/
theorem o_ca (r : Fin 24064) (c : Fin 5120) : out0_15 (F := Ideal) x0 x1 x2 x3 x4 x5 x6 x7 x8 x9 x10 x11 x12 (ix2 r c) = (RD x0 x1 x2 x3 x4 x5 x6 x7 x8 x9 x10 x11 x12).ca r.val c.val := by
  unfold out0_15
  rw [View.canon_unit_zero (by decide)]
  unfold k0_pay68
  rw [ld7]
  exact st_c2 (RD x0 x1 x2 x3 x4 x5 x6 x7 x8 x9 x10 x11 x12) _ _ x9 (o_f x0 x1 x2 x3 x4 x5 x6 x7 x8 x9 x10 x11 x12) r c
/-- Its scale bytes. -/
theorem o_sa (r : Fin 24064) (c : Fin 160) : out0_16 (F := Ideal) x0 x1 x2 x3 x4 x5 x6 x7 x8 x9 x10 x11 x12 (ix2 r c) = (RD x0 x1 x2 x3 x4 x5 x6 x7 x8 x9 x10 x11 x12).sa r.val c.val := by
  unfold out0_16
  rw [View.canon_unit_zero (by decide)]
  unfold k0_pay67
  rw [ld7]
  exact st_s2 (RD x0 x1 x2 x3 x4 x5 x6 x7 x8 x9 x10 x11 x12) _ _ x9 (o_f x0 x1 x2 x3 x4 x5 x6 x7 x8 x9 x10 x11 x12) r c
/-- Its codes times their scales. -/
theorem o_fw (r : Fin 24064) (c : Fin 5120) : k0_pay42 (F := Ideal) (k0_pay67 (F := Ideal) x0 x1 x2 x3 x4 x5 x6 x7 x8 x9 x10 x11 x12) (Scalar.ofBits (F := Ideal) .f32 0x43E00000#32) (k0_pay68 (F := Ideal) x0 x1 x2 x3 x4 x5 x6 x7 x8 x9 x10 x11 x12) (ix2 r c) = (RD x0 x1 x2 x3 x4 x5 x6 x7 x8 x9 x10 x11 x12).fw r.val c.val := by
  unfold k0_pay67 k0_pay68
  rw [ld7]
  exact st_w2 (RD x0 x1 x2 x3 x4 x5 x6 x7 x8 x9 x10 x11 x12) _ _ x9 (o_f x0 x1 x2 x3 x4 x5 x6 x7 x8 x9 x10 x11 x12) r c
/-- The second residual stream. -/
theorem o_h2' (r : Fin 24064) (c : Fin 1280) : k0_pay1 (F := Ideal) (k0_pay59 (F := Ideal) x0 x1 x2 x3 x4 x5 x6 x7 x8 x9 x10 x11 x12) (k0_pay71 (F := Ideal) x0 x1 x2 x3 x4 x5 x6 x7 x8 x9 x10 x11 x12) (View.ld (Val := Elt Ideal) x12 r0_3) (ix2 r c) = (RD x0 x1 x2 x3 x4 x5 x6 x7 x8 x9 x10 x11 x12).h2 r.val c.val := by
  unfold k0_pay71 k0_pay70 k0_pay69
  rw [ld3, ld10, ld11]
  exact st_h2 (RD x0 x1 x2 x3 x4 x5 x6 x7 x8 x9 x10 x11 x12) _ _ x10 x11 x12 (o_h1 x0 x1 x2 x3 x4 x5 x6 x7 x8 x9 x10 x11 x12) (o_fw x0 x1 x2 x3 x4 x5 x6 x7 x8 x9 x10 x11 x12) (e_w2 x0 x1 x2 x3 x4 x5 x6 x7 x8 x9 x10 x11 x12) (e_b2 x0 x1 x2 x3 x4 x5 x6 x7 x8 x9 x10 x11 x12) r c
/-- The second residual stream, the first result. -/
theorem o_h2 (r : Fin 24064) (c : Fin 1280) : out0_17 (F := Ideal) x0 x1 x2 x3 x4 x5 x6 x7 x8 x9 x10 x11 x12 (ix2 r c) = (RD x0 x1 x2 x3 x4 x5 x6 x7 x8 x9 x10 x11 x12).h2 r.val c.val := by
  unfold out0_17
  rw [View.canon_unit_zero (by decide)]
  exact o_h2' x0 x1 x2 x3 x4 x5 x6 x7 x8 x9 x10 x11 x12 r c
/-- The second residual stream, the second result. -/
theorem o_h2b (r : Fin 24064) (c : Fin 1280) : out0_18 (F := Ideal) x0 x1 x2 x3 x4 x5 x6 x7 x8 x9 x10 x11 x12 (ix2 r c) = (RD x0 x1 x2 x3 x4 x5 x6 x7 x8 x9 x10 x11 x12).h2 r.val c.val := by
  unfold out0_18
  rw [View.canon_unit_zero (by decide)]
  exact o_h2' x0 x1 x2 x3 x4 x5 x6 x7 x8 x9 x10 x11 x12 r c
end Mx
-- ==== Proof.RArr.lean ====
/- The result arrays of the reference: one grid point whose blocks are the arrays. -/
module

public import proofs.«01_k».proof.Proof.ROut
import Idealize.ShloMosaic.Lib.Pipeline.ValueKit

@[expose] public section
set_option maxRecDepth 16384
noncomputable section
namespace Mx
open Idealize.ShloMosaic Idealize.ShloMosaic.TcCoe Idealize.ShloMosaic.Tactic Cert.ReferenceIdeal Cert.ReferenceIdeal.Gen

variable (m : (ℓ : Loc nD τ sig) → Buf (Elt Ideal) ℓ) (c : Dev nD)
/-- Where window 0 lies. -/
theorem rix0 : ∀ t : Fin cfg0.N, win0_0.index t = ![0, 0] := (by decide +kernel : ∀ t : Fin grid0.N, _)
/-- Window 0's block is the array. -/
theorem rblk0 : iblk m c 0 t0_0 = m (c.tc.loc main_arg0) := by
  blk_ext! [iblk, V_main_arg0, rix0 t0_0]
/-- Where window 1 lies. -/
theorem rix1 : ∀ t : Fin cfg0.N, win0_1.index t = ![0, 0] := (by decide +kernel : ∀ t : Fin grid0.N, _)
/-- Window 1's block is the array. -/
theorem rblk1 : iblk m c 1 t0_0 = m (c.tc.loc main_arg1) := by
  blk_ext! [iblk, V_main_arg1, rix1 t0_0]
/-- Where window 2 lies. -/
theorem rix2 : ∀ t : Fin cfg0.N, win0_2.index t = ![0, 0] := (by decide +kernel : ∀ t : Fin grid0.N, _)
/-- Window 2's block is the array. -/
theorem rblk2 : iblk m c 2 t0_0 = m (c.tc.loc main_arg2) := by
  blk_ext! [iblk, V_main_arg2, rix2 t0_0]
/-- Where window 3 lies. -/
theorem rix3 : ∀ t : Fin cfg0.N, win0_3.index t = ![0, 0] := (by decide +kernel : ∀ t : Fin grid0.N, _)
/-- Window 3's block is the array. -/
theorem rblk3 : iblk m c 3 t0_0 = m (c.tc.loc main_arg3) := by
  blk_ext! [iblk, V_main_arg3, rix3 t0_0]
/-- Where window 4 lies. -/
theorem rix4 : ∀ t : Fin cfg0.N, win0_4.index t = ![0] := (by decide +kernel : ∀ t : Fin grid0.N, _)
/-- Window 4's block is the array. -/
theorem rblk4 : iblk m c 4 t0_0 = m (c.tc.loc main_arg4) := by
  blk_ext! [iblk, V_main_arg4, rix4 t0_0]
/-- Where window 5 lies. -/
theorem rix5 : ∀ t : Fin cfg0.N, win0_5.index t = ![0] := (by decide +kernel : ∀ t : Fin grid0.N, _)
/-- Window 5's block is the array. -/
theorem rblk5 : iblk m c 5 t0_0 = m (c.tc.loc main_arg5) := by
  blk_ext! [iblk, V_main_arg5, rix5 t0_0]
/-- Where window 6 lies. -/
theorem rix6 : ∀ t : Fin cfg0.N, win0_6.index t = ![0] := (by decide +kernel : ∀ t : Fin grid0.N, _)
/-- Window 6's block is the array. -/
theorem rblk6 : iblk m c 6 t0_0 = m (c.tc.loc main_arg6) := by
  blk_ext! [iblk, V_main_arg6, rix6 t0_0]
/-- Where window 7 lies. -/
theorem rix7 : ∀ t : Fin cfg0.N, win0_7.index t = ![0, 0] := (by decide +kernel : ∀ t : Fin grid0.N, _)
/-- Window 7's block is the array. -/
theorem rblk7 : iblk m c 7 t0_0 = m (c.tc.loc main_arg7) := by
  blk_ext! [iblk, V_main_arg7, rix7 t0_0]
/-- Where window 8 lies. -/
theorem rix8 : ∀ t : Fin cfg0.N, win0_8.index t = ![0, 0] := (by decide +kernel : ∀ t : Fin grid0.N, _)
/-- Window 8's block is the array. -/
theorem rblk8 : iblk m c 8 t0_0 = m (c.tc.loc main_arg8) := by
  blk_ext! [iblk, V_main_arg8, rix8 t0_0]
/-- Where window 9 lies. -/
theorem rix9 : ∀ t : Fin cfg0.N, win0_9.index t = ![0] := (by decide +kernel : ∀ t : Fin grid0.N, _)
/-- Window 9's block is the array. -/
theorem rblk9 : iblk m c 9 t0_0 = m (c.tc.loc main_arg9) := by
  blk_ext! [iblk, V_main_arg9, rix9 t0_0]
/-- Where window 10 lies. -/
theorem rix10 : ∀ t : Fin cfg0.N, win0_10.index t = ![0, 0] := (by decide +kernel : ∀ t : Fin grid0.N, _)
/-- Window 10's block is the array. -/
theorem rblk10 : iblk m c 10 t0_0 = m (c.tc.loc main_arg10) := by
  blk_ext! [iblk, V_main_arg10, rix10 t0_0]
/-- Where window 11 lies. -/
theorem rix11 : ∀ t : Fin cfg0.N, win0_11.index t = ![0, 0] := (by decide +kernel : ∀ t : Fin grid0.N, _)
/-- Window 11's block is the array. -/
theorem rblk11 : iblk m c 11 t0_0 = m (c.tc.loc main_arg11) := by
  blk_ext! [iblk, V_main_arg11, rix11 t0_0]
/-- Where window 12 lies. -/
theorem rix12 : ∀ t : Fin cfg0.N, win0_12.index t = ![0] := (by decide +kernel : ∀ t : Fin grid0.N, _)
/-- Window 12's block is the array. -/
theorem rblk12 : iblk m c 12 t0_0 = m (c.tc.loc main_arg12) := by
  blk_ext! [iblk, V_main_arg12, rix12 t0_0]
/-- The reference's inputs by row and column. -/
def DR : Dat := RD (m (c.tc.loc main_arg0)) (m (c.tc.loc main_arg1)) (m (c.tc.loc main_arg2)) (m (c.tc.loc main_arg3)) (m (c.tc.loc main_arg4)) (m (c.tc.loc main_arg5)) (m (c.tc.loc main_arg6)) (m (c.tc.loc main_arg7)) (m (c.tc.loc main_arg8)) (m (c.tc.loc main_arg9)) (m (c.tc.loc main_arg10)) (m (c.tc.loc main_arg11)) (m (c.tc.loc main_arg12))
/-- Where window 13 lies. -/
theorem rix13 : ∀ t : Fin cfg0.N, win0_13.index t = ![0, 0] := (by decide +kernel : ∀ t : Fin grid0.N, _)
/-- Result window 13 as one array. -/
def rres13 : Vec Ideal S24064x1280 .fp8e4m3 := fun i => (DR m c).c2 (i 0).val (i 1).val
/-- Result window 13 after the grid point. -/
theorem rarr13 : (dats m 0 c).arrAt 13 cfg0.N = rres13 m c := by
  refine (dats m 0 c).arrAt_eq_of_after_last 13 t0_0 (by decide +kernel) _ fun j => ?_
  blk_simp
  rw [after0_13, rblk0, rblk1, rblk2, rblk3, rblk4, rblk5, rblk6, rblk7, rblk8, rblk9, rblk10, rblk11, rblk12]
  exact (congrArg _ (eq_ix2 j)).trans (o_c2 _ _ _ _ _ _ _ _ _ _ _ _ _ (j 0) (j 1))
/-- Where window 14 lies. -/
theorem rix14 : ∀ t : Fin cfg0.N, win0_14.index t = ![0, 0] := (by decide +kernel : ∀ t : Fin grid0.N, _)
/-- Result window 14 as one array. -/
def rres14 : Vec Ideal S24064x40 .i8 := fun i => (DR m c).s2 (i 0).val (i 1).val
/-- Result window 14 after the grid point. -/
theorem rarr14 : (dats m 0 c).arrAt 14 cfg0.N = rres14 m c := by
  refine (dats m 0 c).arrAt_eq_of_after_last 14 t0_0 (by decide +kernel) _ fun j => ?_
  blk_simp
  rw [after0_14, rblk0, rblk1, rblk2, rblk3, rblk4, rblk5, rblk6, rblk7, rblk8, rblk9, rblk10, rblk11, rblk12]
  exact (congrArg _ (eq_ix2 j)).trans (o_s2 _ _ _ _ _ _ _ _ _ _ _ _ _ (j 0) (j 1))
/-- Where window 15 lies. -/
theorem rix15 : ∀ t : Fin cfg0.N, win0_15.index t = ![0, 0] := (by decide +kernel : ∀ t : Fin grid0.N, _)
/-- Result window 15 as one array. -/
def rres15 : Vec Ideal S24064x5120 .fp8e4m3 := fun i => (DR m c).ca (i 0).val (i 1).val
/-- Result window 15 after the grid point. -/
theorem rarr15 : (dats m 0 c).arrAt 15 cfg0.N = rres15 m c := by
  refine (dats m 0 c).arrAt_eq_of_after_last 15 t0_0 (by decide +kernel) _ fun j => ?_
  blk_simp
  rw [after0_15, rblk0, rblk1, rblk2, rblk3, rblk4, rblk5, rblk6, rblk7, rblk8, rblk9, rblk10, rblk11, rblk12]
  exact (congrArg _ (eq_ix2 j)).trans (o_ca _ _ _ _ _ _ _ _ _ _ _ _ _ (j 0) (j 1))
/-- Where window 16 lies. -/
theorem rix16 : ∀ t : Fin cfg0.N, win0_16.index t = ![0, 0] := (by decide +kernel : ∀ t : Fin grid0.N, _)
/-- Result window 16 as one array. -/
def rres16 : Vec Ideal S24064x160 .i8 := fun i => (DR m c).sa (i 0).val (i 1).val
/-- Result window 16 after the grid point. -/
theorem rarr16 : (dats m 0 c).arrAt 16 cfg0.N = rres16 m c := by
  refine (dats m 0 c).arrAt_eq_of_after_last 16 t0_0 (by decide +kernel) _ fun j => ?_
  blk_simp
  rw [after0_16, rblk0, rblk1, rblk2, rblk3, rblk4, rblk5, rblk6, rblk7, rblk8, rblk9, rblk10, rblk11, rblk12]
  exact (congrArg _ (eq_ix2 j)).trans (o_sa _ _ _ _ _ _ _ _ _ _ _ _ _ (j 0) (j 1))
/-- Where window 17 lies. -/
theorem rix17 : ∀ t : Fin cfg0.N, win0_17.index t = ![0, 0] := (by decide +kernel : ∀ t : Fin grid0.N, _)
/-- Result window 17 as one array. -/
def rres17 : Vec Ideal S24064x1280 .f32 := fun i => (DR m c).h2 (i 0).val (i 1).val
/-- Result window 17 after the grid point. -/
theorem rarr17 : (dats m 0 c).arrAt 17 cfg0.N = rres17 m c := by
  refine (dats m 0 c).arrAt_eq_of_after_last 17 t0_0 (by decide +kernel) _ fun j => ?_
  blk_simp
  rw [after0_17, rblk0, rblk1, rblk2, rblk3, rblk4, rblk5, rblk6, rblk7, rblk8, rblk9, rblk10, rblk11, rblk12]
  exact (congrArg _ (eq_ix2 j)).trans (o_h2 _ _ _ _ _ _ _ _ _ _ _ _ _ (j 0) (j 1))
/-- Where window 18 lies. -/
theorem rix18 : ∀ t : Fin cfg0.N, win0_18.index t = ![0, 0] := (by decide +kernel : ∀ t : Fin grid0.N, _)
/-- Result window 18 as one array. -/
def rres18 : Vec Ideal S24064x1280 .bf16 := fun i => (DR m c).h2 (i 0).val (i 1).val
/-- Result window 18 after the grid point. -/
theorem rarr18 : (dats m 0 c).arrAt 18 cfg0.N = rres18 m c := by
  refine (dats m 0 c).arrAt_eq_of_after_last 18 t0_0 (by decide +kernel) _ fun j => ?_
  blk_simp
  rw [after0_18, rblk0, rblk1, rblk2, rblk3, rblk4, rblk5, rblk6, rblk7, rblk8, rblk9, rblk10, rblk11, rblk12]
  exact (congrArg _ (eq_ix2 j)).trans (o_h2b _ _ _ _ _ _ _ _ _ _ _ _ _ (j 0) (j 1))
end Mx
-- ==== Proof.Algebraic.lean ====
/- The kernel and the reference leave the same six arrays. -/
module

public import proofs.«01_k».proof.Defs
public import proofs.«01_k».proof.Proof.KArr
public import proofs.«01_k».proof.Proof.RArr
public import Idealize.ShloMosaic.Adequacy

@[expose] public section
noncomputable section
namespace Mx
open Idealize.ShloMosaic Idealize.ShloMosaic.TcCoe Idealize.SL.Sem

/-- Every run of the kernel leaves the six stated arrays. -/
theorem kernel_leaves (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v17_0) = res13 m c
      ∧ r.2.mem ((c.tc : Thread Cert.KernelIdeal.nD Cert.KernelIdeal.τ).loc Cert.KernelIdeal.main_v17_1) = res14 m c
      ∧ r.2.mem ((c.tc : Thread Cert.KernelIdeal.nD Cert.KernelIdeal.τ).loc Cert.KernelIdeal.main_v17_2) = res15 m c
      ∧ r.2.mem ((c.tc : Thread Cert.KernelIdeal.nD Cert.KernelIdeal.τ).loc Cert.KernelIdeal.main_v17_3) = res16 m c
      ∧ r.2.mem ((c.tc : Thread Cert.KernelIdeal.nD Cert.KernelIdeal.τ).loc Cert.KernelIdeal.main_v17_4) = res17 m c
      ∧ r.2.mem ((c.tc : Thread Cert.KernelIdeal.nD Cert.KernelIdeal.τ).loc Cert.KernelIdeal.main_v17_5) = res18 m c) :=
  (θ_run Cert.KernelIdeal.defs _ _).mono (fun _ h c =>
    ⟨(h.out_eq c 13).trans (arr13 m c), (h.out_eq c 14).trans (arr14 m c), (h.out_eq c 15).trans (arr15 m c),
      (h.out_eq c 16).trans (arr16 m c), (h.out_eq c 17).trans (arr17 m c), (h.out_eq c 18).trans (arr18 m c)⟩)
    (Cert.KernelIdeal.Gen.run_main m g)

/-- Every run of the reference leaves the six stated arrays. -/
theorem reference_leaves (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v0_0) = rres13 m c
      ∧ r.2.mem ((c.tc : Thread Cert.ReferenceIdeal.nD Cert.ReferenceIdeal.τ).loc Cert.ReferenceIdeal.main_v0_1) = rres14 m c
      ∧ r.2.mem ((c.tc : Thread Cert.ReferenceIdeal.nD Cert.ReferenceIdeal.τ).loc Cert.ReferenceIdeal.main_v0_2) = rres15 m c
      ∧ r.2.mem ((c.tc : Thread Cert.ReferenceIdeal.nD Cert.ReferenceIdeal.τ).loc Cert.ReferenceIdeal.main_v0_3) = rres16 m c
      ∧ r.2.mem ((c.tc : Thread Cert.ReferenceIdeal.nD Cert.ReferenceIdeal.τ).loc Cert.ReferenceIdeal.main_v0_4) = rres17 m c
      ∧ r.2.mem ((c.tc : Thread Cert.ReferenceIdeal.nD Cert.ReferenceIdeal.τ).loc Cert.ReferenceIdeal.main_v0_5) = rres18 m c) :=
  (θ_run Cert.ReferenceIdeal.defs _ _).mono (fun _ h c =>
    ⟨(h.out_eq c 13).trans (rarr13 m c), (h.out_eq c 14).trans (rarr14 m c), (h.out_eq c 15).trans (rarr15 m c),
      (h.out_eq c 16).trans (rarr16 m c), (h.out_eq c 17).trans (rarr17 m c), (h.out_eq c 18).trans (rarr18 m c)⟩)
    (Cert.ReferenceIdeal.Gen.run_main m g)

/-- The kernel's results equal the reference's, over the extended reals, from memories that hold the same arguments. -/
theorem algebraic : Cert.algebraic_KernelIdeal_ReferenceIdeal (hKernelIdeal := Cert.KernelIdeal.Gen.facts) (hReferenceIdeal := Cert.ReferenceIdeal.Gen.facts) := by
  intro m g m' g' _ hagree
  have hD : ∀ c, DR m' c = DK m c := fun c => by
    obtain ⟨e0, e1, e2, e3, e4, e5, e6, e7, e8, e9, e10, e11, e12⟩ := hagree c
    unfold DR RD DK
    rw [e0, e1, e2, e3, e4, e5, e6, e7, e8, e9, e10, e11, e12]
  refine ⟨fun c => res13 m c, fun c => res14 m c, fun c => res15 m c, fun c => res16 m c, fun c => res17 m c, fun c => res18 m c,
    (θ_run Cert.KernelIdeal.defs _ _).mono (fun _ h c => ?_) (θ_run_and (kernel_leaves m g) (Cert.KernelIdeal.Gen.unchanged m g)),
    (θ_run Cert.ReferenceIdeal.defs _ _).mono (fun _ h c => ?_) (θ_run_and (reference_leaves m' g') (Cert.ReferenceIdeal.Gen.unchanged m' g'))⟩
  · obtain ⟨h0, h1, h2, h3, h4, h5⟩ := h.1 c
    exact ⟨h0, h1, h2, h3, h4, h5, h.2 c⟩
  · obtain ⟨h0, h1, h2, h3, h4, h5⟩ := h.1 c
    refine ⟨h0.trans ?_, h1.trans ?_, h2.trans ?_, h3.trans ?_, h4.trans ?_, h5.trans ?_, h.2 c⟩
    · unfold rres13 res13
      rw [hD c]
    · unfold rres14 res14
      rw [hD c]
    · unfold rres15 res15
      rw [hD c]
    · unfold rres16 res16
      rw [hD c]
    · unfold rres17 res17
      rw [hD c]
    · unfold rres18 res18
      rw [hD c]

end Mx
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Everything claimed: the frames come from the generated modules, the value claim from `Mx.algebraic`. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, Mx.algebraic⟩

end Cert.Proof

end
